-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x192x224x224 : Shape := ⟨4, ![1, 192, 224, 224]⟩
abbrev S576x192x1x1 : Shape := ⟨4, ![576, 192, 1, 1]⟩
abbrev S576x1x3x3 : Shape := ⟨4, ![576, 1, 3, 3]⟩
abbrev S192x192x1x1 : Shape := ⟨4, ![192, 192, 1, 1]⟩
abbrev S6x1x1 : Shape := ⟨3, ![6, 1, 1]⟩
abbrev S1 : Shape := ⟨1, ![1]⟩
abbrev S192x50176 : Shape := ⟨2, ![192, 50176]⟩
abbrev S192x224x224 : Shape := ⟨3, ![192, 224, 224]⟩
abbrev S576x192 : Shape := ⟨2, ![576, 192]⟩
abbrev S576x9 : Shape := ⟨2, ![576, 9]⟩
abbrev S192x192 : Shape := ⟨2, ![192, 192]⟩
abbrev S6x1 : Shape := ⟨2, ![6, 1]⟩
abbrev S1x1 : Shape := ⟨2, ![1, 1]⟩
abbrev S384x50176 : Shape := ⟨2, ![384, 50176]⟩
abbrev S192x1 : Shape := ⟨2, ![192, 1]⟩
abbrev S192x32 : Shape := ⟨2, ![192, 32]⟩
abbrev S192x8x224 : Shape := ⟨3, ![192, 8, 224]⟩
abbrev S192x3584 : Shape := ⟨2, ![192, 3584]⟩
abbrev S384x3584 : Shape := ⟨2, ![384, 3584]⟩
abbrev S576x3584 : Shape := ⟨2, ![576, 3584]⟩
abbrev S192x224 : Shape := ⟨2, ![192, 224]⟩
abbrev S192x1x224 : Shape := ⟨3, ![192, 1, 224]⟩
abbrev S192x4032 : Shape := ⟨2, ![192, 4032]⟩
abbrev S576x4032 : Shape := ⟨2, ![576, 4032]⟩
abbrev S1x3584 : Shape := ⟨2, ![1, 3584]⟩
abbrev S576x1 : Shape := ⟨2, ![576, 1]⟩
abbrev S576x4034 : Shape := ⟨2, ![576, 4034]⟩
abbrev S192 : Shape := ⟨1, ![192]⟩
abbrev S1x32x32 : Shape := ⟨3, ![1, 32, 32]⟩
abbrev S32x32 : Shape := ⟨2, ![32, 32]⟩
abbrev S32x32x1 : Shape := ⟨3, ![32, 32, 1]⟩
abbrev S32x1x32 : Shape := ⟨3, ![32, 1, 32]⟩
abbrev S32x32x32 : Shape := ⟨3, ![32, 32, 32]⟩
abbrev S32 : Shape := ⟨1, ![32]⟩
abbrev S32x1 : Shape := ⟨2, ![32, 1]⟩
abbrev S32x3584 : Shape := ⟨2, ![32, 3584]⟩

abbrev nBuf : Space → Nat
  | .hbm => 21
  | .vmem => 31
  | .smem => 0
  | _ => 0

abbrev bufTy : (tb : Table) → Fin (tcTables nBuf tb) → BufTy
  | .hbm, ⟨0, _⟩ => ⟨S1x192x224x224, .f32⟩
  | .hbm, ⟨1, _⟩ => ⟨S576x192x1x1, .f32⟩
  | .hbm, ⟨2, _⟩ => ⟨S576x1x3x3, .f32⟩
  | .hbm, ⟨3, _⟩ => ⟨S192x192x1x1, .f32⟩
  | .hbm, ⟨4, _⟩ => ⟨S6x1x1, .f32⟩
  | .hbm, ⟨5, _⟩ => ⟨S1, .f32⟩
  | .hbm, ⟨6, _⟩ => ⟨S192x50176, .f32⟩
  | .hbm, ⟨7, _⟩ => ⟨S192x224x224, .f32⟩
  | .hbm, ⟨8, _⟩ => ⟨S576x192, .f32⟩
  | .hbm, ⟨9, _⟩ => ⟨S576x9, .f32⟩
  | .hbm, ⟨10, _⟩ => ⟨S192x192, .f32⟩
  | .hbm, ⟨11, _⟩ => ⟨S6x1, .f32⟩
  | .hbm, ⟨12, _⟩ => ⟨S1x1, .f32⟩
  | .hbm, ⟨13, _⟩ => ⟨S384x50176, .f32⟩
  | .hbm, ⟨14, _⟩ => ⟨S192x50176, .bf16⟩
  | .hbm, ⟨15, _⟩ => ⟨S192x1, .f32⟩
  | .hbm, ⟨16, _⟩ => ⟨S192x1, .f32⟩
  | .hbm, ⟨17, _⟩ => ⟨S192x192, .f32⟩
  | .hbm, ⟨18, _⟩ => ⟨S192x32, .f32⟩
  | .hbm, ⟨19, _⟩ => ⟨S192x50176, .f32⟩
  | .hbm, ⟨20, _⟩ => ⟨S1x192x224x224, .f32⟩
  | .local _ .vmem, ⟨0, _⟩ => ⟨S192x8x224, .f32⟩
  | .local _ .vmem, ⟨1, _⟩ => ⟨S192x8x224, .f32⟩
  | .local _ .vmem, ⟨2, _⟩ => ⟨S192x3584, .f32⟩
  | .local _ .vmem, ⟨3, _⟩ => ⟨S192x3584, .f32⟩
  | .local _ .vmem, ⟨4, _⟩ => ⟨S192x8x224, .f32⟩
  | .local _ .vmem, ⟨5, _⟩ => ⟨S192x8x224, .f32⟩
  | .local _ .vmem, ⟨6, _⟩ => ⟨S576x192, .f32⟩
  | .local _ .vmem, ⟨7, _⟩ => ⟨S576x9, .f32⟩
  | .local _ .vmem, ⟨8, _⟩ => ⟨S384x3584, .f32⟩
  | .local _ .vmem, ⟨9, _⟩ => ⟨S384x3584, .f32⟩
  | .local _ .vmem, ⟨10, _⟩ => ⟨S192x3584, .bf16⟩
  | .local _ .vmem, ⟨11, _⟩ => ⟨S192x3584, .bf16⟩
  | .local _ .vmem, ⟨12, _⟩ => ⟨S192x1, .f32⟩
  | .local _ .vmem, ⟨13, _⟩ => ⟨S192x1, .f32⟩
  | .local _ .vmem, ⟨14, _⟩ => ⟨S576x3584, .f32⟩
  | .local _ .vmem, ⟨15, _⟩ => ⟨S384x3584, .f32⟩
  | .local _ .vmem, ⟨16, _⟩ => ⟨S384x3584, .f32⟩
  | .local _ .vmem, ⟨17, _⟩ => ⟨S192x1, .f32⟩
  | .local _ .vmem, ⟨18, _⟩ => ⟨S192x1, .f32⟩
  | .local _ .vmem, ⟨19, _⟩ => ⟨S192x192, .f32⟩
  | .local _ .vmem, ⟨20, _⟩ => ⟨S192x192, .f32⟩
  | .local _ .vmem, ⟨21, _⟩ => ⟨S6x1, .f32⟩
  | .local _ .vmem, ⟨22, _⟩ => ⟨S192x32, .f32⟩
  | .local _ .vmem, ⟨23, _⟩ => ⟨S192x3584, .bf16⟩
  | .local _ .vmem, ⟨24, _⟩ => ⟨S192x3584, .bf16⟩
  | .local _ .vmem, ⟨25, _⟩ => ⟨S192x32, .f32⟩
  | .local _ .vmem, ⟨26, _⟩ => ⟨S192x192, .f32⟩
  | .local _ .vmem, ⟨27, _⟩ => ⟨S1x1, .f32⟩
  | .local _ .vmem, ⟨28, _⟩ => ⟨S192x3584, .f32⟩
  | .local _ .vmem, ⟨29, _⟩ => ⟨S192x3584, .f32⟩
  | .local _ .vmem, ⟨30, _⟩ => ⟨S192x3584, .f32⟩
  | _, _ => ⟨S1x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7_0 : Ref sig .tc := ⟨.hbm, 13, rfl⟩
abbrev main_call0_v7_1 : Ref sig .tc := ⟨.hbm, 14, rfl⟩
abbrev main_call0_v7_2 : Ref sig .tc := ⟨.hbm, 15, rfl⟩
abbrev main_call0_v7_3 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc2_sem0_0 : DmaSem sig := 19
abbrev cc2_sem1_0 : DmaSem sig := 20
abbrev cc2_sem2_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32_72 : BitVec 32 := 0#32
  let v177 : BitVec 1 := Scalar.cmpi .eq arg0 c0_i32_72
  let v178 : BitVec 32 := Scalar.extui v177
  let c0_i32_73 : BitVec 32 := 0#32
  let v179 : BitVec 1 := Scalar.cmpi .ne v178 c0_i32_73
  v179

def k0_cond2 (i : grid0.Coords) : BitVec 1 :=
  let arg0 : BitVec 32 := BitVec.ofNat 32 (i 0).val
  let c0_i32_74 : BitVec 32 := 0#32
  let v180 : BitVec 1 := Scalar.cmpi .ne arg0 c0_i32_74
  let v181 : BitVec 32 := Scalar.extui v180
  let c0_i32_75 : BitVec 32 := 0#32
  let v182 : BitVec 1 := Scalar.cmpi .ne v181 c0_i32_75
  v182

def cc0_transform_0 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![c0_i32_6.toNat, v19.toNat, c0_i32_7.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c27_i32 : BitVec 32 := 27#32
  let v19 : BitVec 32 := Scalar.minsi v18 c27_i32
  let c0_i32_5 : BitVec 32 := 0#32
  let c0_i32_6 : BitVec 32 := 0#32
  let c0_i32_7 : BitVec 32 := 0#32
  ![c0_i32_5.toNat, v19.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x8x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x8x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S576x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S576x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![14], ![false]⟩

def k1_cond1 (i : grid1.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_8 : BitVec 32 := 0#32
  let v23 : BitVec 1 := Scalar.cmpi .ne v22 c0_i32_8
  v23

def k1_cond2 (i : grid1.Coords) : BitVec 1 :=
  let arg0 : BitVec 32 := BitVec.ofNat 32 (i 0).val
  let c0_i32_9 : BitVec 32 := 0#32
  let v24 : BitVec 1 := Scalar.cmpi .ne arg0 c0_i32_9
  let v25 : BitVec 32 := Scalar.extui v24
  let c0_i32_10 : BitVec 32 := 0#32
  let v26 : BitVec 1 := Scalar.cmpi .ne v25 c0_i32_10
  v26

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S384x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S192x192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S6x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S192x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![14], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S192x3584 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S192x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S192x3584 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S1x192x224x224 : Shape := ⟨4, ![1, 192, 224, 224]⟩
abbrev S576x192x1x1 : Shape := ⟨4, ![576, 192, 1, 1]⟩
abbrev S576x1x3x3 : Shape := ⟨4, ![576, 1, 3, 3]⟩
abbrev S192x192x1x1 : Shape := ⟨4, ![192, 192, 1, 1]⟩
abbrev S6x1x1 : Shape := ⟨3, ![6, 1, 1]⟩
abbrev S1 : Shape := ⟨1, ![1]⟩
abbrev S576x192 : Shape := ⟨2, ![576, 192]⟩
abbrev S1x224x224x576 : Shape := ⟨4, ![1, 224, 224, 576]⟩
abbrev S1x576x224x224 : Shape := ⟨4, ![1, 576, 224, 224]⟩
abbrev S_ : Shape := ⟨0, ![]⟩
abbrev S1x576x226x226 : Shape := ⟨4, ![1, 576, 226, 226]⟩
abbrev S576x1x1x1 : Shape := ⟨4, ![576, 1, 1, 1]⟩
abbrev S576 : Shape := ⟨1, ![576]⟩
abbrev S1x576x1x1 : Shape := ⟨4, ![1, 576, 1, 1]⟩
abbrev S1x6x32x50176 : Shape := ⟨4, ![1, 6, 32, 50176]⟩
abbrev S1x6x32 : Shape := ⟨3, ![1, 6, 32]⟩
abbrev S1x6x32x1 : Shape := ⟨4, ![1, 6, 32, 1]⟩
abbrev S1x6x32x32 : Shape := ⟨4, ![1, 6, 32, 32]⟩
abbrev S1x6x1x1 : Shape := ⟨4, ![1, 6, 1, 1]⟩
abbrev S1x6x32x16 : Shape := ⟨4, ![1, 6, 32, 16]⟩
abbrev S1x6x32x16x1 : Shape := ⟨5, ![1, 6, 32, 16, 1]⟩
abbrev S1x1x1x1x32 : Shape := ⟨5, ![1, 1, 1, 1, 32]⟩
abbrev S1x6x32x16x32 : Shape := ⟨5, ![1, 6, 32, 16, 32]⟩
abbrev S192x192 : Shape := ⟨2, ![192, 192]⟩
abbrev S1x224x224x192 : Shape := ⟨4, ![1, 224, 224, 192]⟩

abbrev nBuf : Space → Nat
  | .hbm => 146
  | .vmem => 0
  | .smem => 0
  | _ => 0

abbrev hbmTy0_0 (i : Nat) : BufTy := match i % 128 with
  | 0 => ⟨S1x192x224x224, .f32⟩
  | 1 => ⟨S576x192x1x1, .f32⟩
  | 2 => ⟨S576x1x3x3, .f32⟩
  | 3 => ⟨S192x192x1x1, .f32⟩
  | 4 => ⟨S6x1x1, .f32⟩
  | 5 => ⟨S1, .f32⟩
  | 6 => ⟨S576x192, .f32⟩
  | 7 => ⟨S1x224x224x576, .f32⟩
  | 8 => ⟨S1x576x224x224, .f32⟩
  | 9 => ⟨S_, .i32⟩
  | 10 => ⟨S_, .f32⟩
  | 11 => ⟨S1x576x226x226, .f32⟩
  | 12 => ⟨S_, .f32⟩
  | 13 => ⟨S1x576x224x224, .f32⟩
  | 14 => ⟨S576x1x1x1, .f32⟩
  | 15 => ⟨S576, .f32⟩
  | 16 => ⟨S1x576x1x1, .f32⟩
  | 17 => ⟨S1x576x224x224, .f32⟩
  | 18 => ⟨S1x576x224x224, .f32⟩
  | 19 => ⟨S1x576x224x224, .f32⟩
  | 20 => ⟨S1x576x224x224, .f32⟩
  | 21 => ⟨S576x1x1x1, .f32⟩
  | 22 => ⟨S576, .f32⟩
  | 23 => ⟨S1x576x1x1, .f32⟩
  | 24 => ⟨S1x576x224x224, .f32⟩
  | 25 => ⟨S1x576x224x224, .f32⟩
  | 26 => ⟨S1x576x224x224, .f32⟩
  | 27 => ⟨S1x576x224x224, .f32⟩
  | 28 => ⟨S576x1x1x1, .f32⟩
  | 29 => ⟨S576, .f32⟩
  | 30 => ⟨S1x576x1x1, .f32⟩
  | 31 => ⟨S1x576x224x224, .f32⟩
  | 32 => ⟨S1x576x224x224, .f32⟩
  | 33 => ⟨S1x576x224x224, .f32⟩
  | 34 => ⟨S1x576x224x224, .f32⟩
  | 35 => ⟨S576x1x1x1, .f32⟩
  | 36 => ⟨S576, .f32⟩
  | 37 => ⟨S1x576x1x1, .f32⟩
  | 38 => ⟨S1x576x224x224, .f32⟩
  | 39 => ⟨S1x576x224x224, .f32⟩
  | 40 => ⟨S1x576x224x224, .f32⟩
  | 41 => ⟨S1x576x224x224, .f32⟩
  | 42 => ⟨S576x1x1x1, .f32⟩
  | 43 => ⟨S576, .f32⟩
  | 44 => ⟨S1x576x1x1, .f32⟩
  | 45 => ⟨S1x576x224x224, .f32⟩
  | 46 => ⟨S1x576x224x224, .f32⟩
  | 47 => ⟨S1x576x224x224, .f32⟩
  | 48 => ⟨S1x576x224x224, .f32⟩
  | 49 => ⟨S576x1x1x1, .f32⟩
  | 50 => ⟨S576, .f32⟩
  | 51 => ⟨S1x576x1x1, .f32⟩
  | 52 => ⟨S1x576x224x224, .f32⟩
  | 53 => ⟨S1x576x224x224, .f32⟩
  | 54 => ⟨S1x576x224x224, .f32⟩
  | 55 => ⟨S1x576x224x224, .f32⟩
  | 56 => ⟨S576x1x1x1, .f32⟩
  | 57 => ⟨S576, .f32⟩
  | 58 => ⟨S1x576x1x1, .f32⟩
  | 59 => ⟨S1x576x224x224, .f32⟩
  | 60 => ⟨S1x576x224x224, .f32⟩
  | 61 => ⟨S1x576x224x224, .f32⟩
  | 62 => ⟨S1x576x224x224, .f32⟩
  | 63 => ⟨S576x1x1x1, .f32⟩
  | 64 => ⟨S576, .f32⟩
  | 65 => ⟨S1x576x1x1, .f32⟩
  | 66 => ⟨S1x576x224x224, .f32⟩
  | 67 => ⟨S1x576x224x224, .f32⟩
  | 68 => ⟨S1x576x224x224, .f32⟩
  | 69 => ⟨S1x576x224x224, .f32⟩
  | 70 => ⟨S576x1x1x1, .f32⟩
  | 71 => ⟨S576, .f32⟩
  | 72 => ⟨S1x576x1x1, .f32⟩
  | 73 => ⟨S1x576x224x224, .f32⟩
  | 74 => ⟨S1x576x224x224, .f32⟩
  | 75 => ⟨S1x576x224x224, .f32⟩
  | 76 => ⟨S1x576x224x224, .f32⟩
  | 77 => ⟨S1x192x224x224, .f32⟩
  | 78 => ⟨S1x192x224x224, .f32⟩
  | 79 => ⟨S1x192x224x224, .f32⟩
  | 80 => ⟨S1x6x32x50176, .f32⟩
  | 81 => ⟨S1x6x32x50176, .f32⟩
  | 82 => ⟨S1x6x32x50176, .f32⟩
  | 83 => ⟨S1x6x32x50176, .f32⟩
  | 84 => ⟨S_, .f32⟩
  | 85 => ⟨S1x6x32, .f32⟩
  | 86 => ⟨S1x6x32x1, .f32⟩
  | 87 => ⟨S1x6x32x1, .f32⟩
  | 88 => ⟨S_, .f32⟩
  | 89 => ⟨S1x6x32x1, .f32⟩
  | 90 => ⟨S1x6x32x1, .f32⟩
  | 91 => ⟨S1x6x32x50176, .f32⟩
  | 92 => ⟨S1x6x32x50176, .f32⟩
  | 93 => ⟨S1x6x32x50176, .f32⟩
  | 94 => ⟨S_, .f32⟩
  | 95 => ⟨S1x6x32, .f32⟩
  | 96 => ⟨S1x6x32x1, .f32⟩
  | 97 => ⟨S1x6x32x1, .f32⟩
  | 98 => ⟨S_, .f32⟩
  | 99 => ⟨S1x6x32x1, .f32⟩
  | 100 => ⟨S1x6x32x1, .f32⟩
  | 101 => ⟨S1x6x32x50176, .f32⟩
  | 102 => ⟨S1x6x32x50176, .f32⟩
  | 103 => ⟨S1x6x32x32, .f32⟩
  | 104 => ⟨S1x6x1x1, .f32⟩
  | 105 => ⟨S1x6x32x32, .f32⟩
  | 106 => ⟨S1x6x32x32, .f32⟩
  | 107 => ⟨S1x6x32x16, .f32⟩
  | 108 => ⟨S1x6x32x16, .i32⟩
  | 109 => ⟨S1x6x32x16x1, .i32⟩
  | 110 => ⟨S1x1x1x1x32, .i32⟩
  | 111 => ⟨S1x6x32x16x32, .i32⟩
  | 112 => ⟨S1x6x32x16x32, .i32⟩
  | 113 => ⟨S1x6x32x16x32, .i1⟩
  | 114 => ⟨S1x6x32x16x32, .f32⟩
  | 115 => ⟨S_, .f32⟩
  | 116 => ⟨S1x6x32x32, .f32⟩
  | 117 => ⟨S_, .f32⟩
  | 118 => ⟨S1x6x32x32, .f32⟩
  | 119 => ⟨S1x6x32x32, .i1⟩
  | 120 => ⟨S_, .f32⟩
  | 121 => ⟨S_, .f32⟩
  | 122 => ⟨S1x6x32x32, .f32⟩
  | 123 => ⟨S1x6x32x32, .f32⟩
  | 124 => ⟨S_, .f32⟩
  | 125 => ⟨S1x6x32, .f32⟩
  | 126 => ⟨S_, .f32⟩
  | 127 => ⟨S1x6x32, .f32⟩
  | _ => ⟨S1x192x224x224, .f32⟩

abbrev hbmTy0_1 (i : Nat) : BufTy := match i % 128 with
  | 0 => ⟨S1x6x32, .f32⟩
  | 1 => ⟨S1x6x32x1, .f32⟩
  | 2 => ⟨S1x6x32x32, .f32⟩
  | 3 => ⟨S1x6x32x32, .f32⟩
  | 4 => ⟨S1x6x32x32, .f32⟩
  | 5 => ⟨S_, .f32⟩
  | 6 => ⟨S1x6x32, .f32⟩
  | 7 => ⟨S1x6x32x1, .f32⟩
  | 8 => ⟨S1x6x32x32, .f32⟩
  | 9 => ⟨S1x6x32x32, .f32⟩
  | 10 => ⟨S1x6x32x50176, .f32⟩
  | 11 => ⟨S_, .f32⟩
  | 12 => ⟨S1x6x32x50176, .f32⟩
  | 13 => ⟨S1x6x32x50176, .f32⟩
  | 14 => ⟨S1x192x224x224, .f32⟩
  | 15 => ⟨S192x192, .f32⟩
  | 16 => ⟨S1x224x224x192, .f32⟩
  | 17 => ⟨S1x192x224x224, .f32⟩
  | _ => ⟨S1x192x224x224, .f32⟩

abbrev hbmTy (i : Nat) : BufTy := match i / 128 with
  | 0 => hbmTy0_0 i
  | 1 => hbmTy0_1 i
  | _ => ⟨S1x192x224x224, .f32⟩

abbrev bufTy : (tb : Table) → Fin (tcTables nBuf tb) → BufTy
  | .hbm, ⟨i, _⟩ => hbmTy i
  | _, _ => ⟨S1x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_call1_v2 : Ref sig .tc := ⟨.hbm, 86, rfl⟩
abbrev main_v74 : Ref sig .tc := ⟨.hbm, 87, rfl⟩
abbrev main_cst_0 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_call2_v0 : Ref sig .tc := ⟨.hbm, 93, rfl⟩
abbrev main_call2_cst : Ref sig .tc := ⟨.hbm, 94, rfl⟩
abbrev main_call2_v1 : Ref sig .tc := ⟨.hbm, 95, rfl⟩
abbrev main_call2_v2 : Ref sig .tc := ⟨.hbm, 96, rfl⟩
abbrev main_v79 : Ref sig .tc := ⟨.hbm, 97, rfl⟩
abbrev main_cst_1 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_values : Ref sig .tc := ⟨.hbm, 107, rfl⟩
abbrev main_indices : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v88 : Ref sig .tc := ⟨.hbm, 114, rfl⟩
abbrev main_cst_2 : Ref sig .tc := ⟨.hbm, 115, rfl⟩
abbrev main_v89 : Ref sig .tc := ⟨.hbm, 116, rfl⟩
abbrev main_cst_3 : Ref sig .tc := ⟨.hbm, 117, rfl⟩
abbrev main_v90 : Ref sig .tc := ⟨.hbm, 118, rfl⟩
abbrev main_v91 : Ref sig .tc := ⟨.hbm, 119, rfl⟩
abbrev main_cst_4 : Ref sig .tc := ⟨.hbm, 120, rfl⟩
abbrev main_call4_v0 : Ref sig .tc := ⟨.hbm, 121, rfl⟩
abbrev main_call4_v1 : Ref sig .tc := ⟨.hbm, 122, rfl⟩
abbrev main_v92 : Ref sig .tc := ⟨.hbm, 123, rfl⟩
abbrev main_cst_5 : Ref sig .tc := ⟨.hbm, 124, rfl⟩
abbrev main_v93 : Ref sig .tc := ⟨.hbm, 125, rfl⟩
abbrev main_cst_6 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_7 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩

abbrev nD : Nat := 1
abbrev τ : Topo := Topo.v7x

variable {F : FTy → Type} [FloatOps F]
-- ==== Proof.RunK.Frame.lean ====
/- The run of `Kernel`: @main as segments, and the frame. -/
module

public import proofs.«01_k».proof.Proof.RunK.Record0
public import proofs.«01_k».proof.Proof.RunK.Record1
public import proofs.«01_k».proof.Proof.RunK.Record2
public import proofs.«01_k».proof.Proof.RunK.Record3

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The frame at any `F`: at the compiled mesh, from any memory with zero counters, every weakly fair execution of @main on
    the TensorCores terminates, nothing faulting, and every final state has the argument arrays as launched and every
    semaphore counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), funext fun g => hz g (.inr (no_unscoped g.2))⟩)

end Cert.Kernel.Gen

end
-- ==== Proof.RunI.Region0.lean ====
/- The run of `KernelIdeal`: the first call (1x1 projection, depthwise 3x3, row sums of squares): what its body leaves in each output block, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__p1_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x2000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cond0_1 (grid0.coords t) → cfg0.fresh 7 t.val = false := by
  intro t; rw [fresh0_7_eq t]; revert t; decide +kernel
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x2000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_B : ∀ t : Fin cfg0.N, ¬cond0_0 (grid0.coords t) → cond0_1 (grid0.coords t) → cfg0.fresh 8 t.val = false := by
  intro t; rw [fresh0_8_eq t]; revert t; decide +kernel

/-! ## The kernel body on any staging memrefs: a subtype the run finds -/

/-- One staging buffer of output window 5, through which its contents are stated (`View.read_writes_of_cover`: the
    choice does not matter). -/
abbrev VO0_5 : View sig .tc .vmem S384x3584 .f32 := (Memref.whole cc0_stg5_0 : Memref sig .tc .vmem S384x3584 .f32).view
/-- One staging buffer of output window 6, through which its contents are stated (`View.read_writes_of_cover`: the
    choice does not matter). -/
abbrev VO0_6 : View sig .tc .vmem S192x3584 .bf16 := (Memref.whole cc0_stg6_0 : Memref sig .tc .vmem S192x3584 .bf16).view
/-- One staging buffer of output window 7, through which its contents are stated (`View.read_writes_of_cover`: the
    choice does not matter). -/
abbrev VO0_7 : View sig .tc .vmem S192x1 .f32 := (Memref.whole cc0_stg7_0 : Memref sig .tc .vmem S192x1 .f32).view
/-- One staging buffer of output window 8, through which its contents are stated (`View.read_writes_of_cover`: the
    choice does not matter). -/
abbrev VO0_8 : View sig .tc .vmem S192x1 .f32 := (Memref.whole cc0_stg8_0 : Memref sig .tc .vmem S192x1 .f32).view
/-- Each window's current staging memref at point `t`, spelled as the pipeline passes it (`bodyAt0`), and its wholeness. -/
abbrev ms0_0 (t : Fin cfg0.N) : Memref sig .tc .vmem S192x8x224 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x3584 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x8x224 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S576x192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S576x9 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x3584 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x3584 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S192x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S192x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S576x3584 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc3_scratch0), ((c : Thread nD τ).loc cc3_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) :
    Σ' (L5 : List (View.Piece (Elt F) S384x3584 .f32)), Σ' (L6 : List (View.Piece (Elt F) S192x3584 .bf16)), Σ' (L7 : List (View.Piece (Elt F) S192x1 .f32)), Σ' (L8 : List (View.Piece (Elt F) S192x1 .f32)), { LT0 : List (View.Piece (Elt F) S576x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LT0)) -∗ K ⟨⟩))
          ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__p1_body_eq_skeleton]; unfold cc0__p1_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact HS0

/-- Case A's pieces for output 5 tile its block (1 store of `S384x3584`, checked by the kernel's evaluation: Lib/Ring.lean `Piece.tiledL`, linear in the pieces, through a loop's `@[irreducible]` trip theorem too), so they cover it. -/
theorem cover0_A_5 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) (y : S384x3584.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S384x3584.size (by sl_kernel_rfl) y

/-- What case A leaves in output 5's staging buffer: its pieces read back over junk. -/
def out0_A_5 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) : Vec F S384x3584 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- Case A's pieces for output 6 tile its block (1 store of `S192x3584`, checked by the kernel's evaluation: Lib/Ring.lean `Piece.tiledL`, linear in the pieces, through a loop's `@[irreducible]` trip theorem too), so they cover it. -/
theorem cover0_A_6 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) (y : S192x3584.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S192x3584.size (by sl_kernel_rfl) y

/-- What case A leaves in output 6's staging buffer: its pieces read back over junk. -/
def out0_A_6 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) : Vec F S192x3584 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

/-- Case A's pieces for output 7 tile its block (1 store of `S192x1`, checked by the kernel's evaluation: Lib/Ring.lean `Piece.tiledL`, linear in the pieces, through a loop's `@[irreducible]` trip theorem too), so they cover it. -/
theorem cover0_A_7 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) (y : S192x1.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S192x1.size (by sl_kernel_rfl) y

/-- What case A leaves in output 7's staging buffer: its pieces read back over junk. -/
def out0_A_7 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) : Vec F S192x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

/-- Case A's pieces for output 8 tile its block (1 store of `S192x1`, checked by the kernel's evaluation: Lib/Ring.lean `Piece.tiledL`, linear in the pieces, through a loop's `@[irreducible]` trip theorem too), so they cover it. -/
theorem cover0_A_8 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) (y : S192x1.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S192x1.size (by sl_kernel_rfl) y

/-- What case A leaves in output 8's staging buffer: its pieces read back over junk. -/
def out0_A_8 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : cond0_0 i) (hc1 : ¬cond0_1 i)
    (x0 : Vec F S192x8x224 .f32) (x1 : Vec F S192x3584 .f32) (x2 : Vec F S192x8x224 .f32) (x3 : Vec F S576x192 .f32) (x4 : Vec F S576x9 .f32) : Vec F S192x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 13: 13 of 14), WITH the
    proof that on whole staging memrefs — the inputs' at their contents, the outputs it reads before covering (7, 8) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) :
    Σ' (L5 : List (View.Piece (Elt F) S384x3584 .f32)), Σ' (L6 : List (View.Piece (Elt F) S192x3584 .bf16)), Σ' (L7 : List (View.Piece (Elt F) S192x1 .f32)), Σ' (L8 : List (View.Piece (Elt F) S192x1 .f32)), { LT0 : List (View.Piece (Elt F) S576x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ owns (c : Thread nD τ) arg9 fullShare xo8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LT0)) -∗ K ⟨⟩))
          ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__p1_body_eq_skeleton]; unfold cc0__p1_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact HS0

/-- Case B's pieces for output 5 tile its block (1 store of `S384x3584`, checked by the kernel's evaluation: Lib/Ring.lean `Piece.tiledL`, linear in the pieces, through a loop's `@[irreducible]` trip theorem too), so they cover it. -/
theorem cover0_B_5 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) (y : S384x3584.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo7 xo8).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo7 xo8).1 S384x3584.size (by sl_kernel_rfl) y

/-- What case B leaves in output 5's staging buffer: its pieces read back over junk. -/
def out0_B_5 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) : Vec F S384x3584 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xo7 xo8).1)

/-- Case B's pieces for output 6 tile its block (1 store of `S192x3584`, checked by the kernel's evaluation: Lib/Ring.lean `Piece.tiledL`, linear in the pieces, through a loop's `@[irreducible]` trip theorem too), so they cover it. -/
theorem cover0_B_6 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) (y : S192x3584.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo7 xo8).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo7 xo8).2.1 S192x3584.size (by sl_kernel_rfl) y

/-- What case B leaves in output 6's staging buffer: its pieces read back over junk. -/
def out0_B_6 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) : Vec F S192x3584 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xo7 xo8).2.1)

/-- Case B's pieces for output 7 tile its block (1 store of `S192x1`, checked by the kernel's evaluation: Lib/Ring.lean `Piece.tiledL`, linear in the pieces, through a loop's `@[irreducible]` trip theorem too), so they cover it. -/
theorem cover0_B_7 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) (y : S192x1.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo7 xo8).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo7 xo8).2.2.1 S192x1.size (by sl_kernel_rfl) y

/-- What case B leaves in output 7's staging buffer: its pieces read back over junk. -/
def out0_B_7 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) : Vec F S192x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xo7 xo8).2.2.1)

/-- Case B's pieces for output 8 tile its block (1 store of `S192x1`, checked by the kernel's evaluation: Lib/Ring.lean `Piece.tiledL`, linear in the pieces, through a loop's `@[irreducible]` trip theorem too), so they cover it. -/
theorem cover0_B_8 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) (y : S192x1.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xo7 xo8).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xo7 xo8).2.2.2.1 S192x1.size (by sl_kernel_rfl) y

/-- What case B leaves in output 8's staging buffer: its pieces read back over junk. -/
def out0_B_8 (c : Dev nD) (i : grid0.Coords) (arg1 : Memref sig .tc .vmem S192x8x224 .f32) (harg1 : arg1.IsWhole) (arg2 : Memref sig .tc .vmem S192x3584 .f32) (harg2 : arg2.IsWhole) (arg3 : Memref sig .tc .vmem S192x8x224 .f32) (harg3 : arg3.IsWhole) (arg4 : Memref sig .tc .vmem S576x192 .f32) (harg4 : arg4.IsWhole) (arg5 : Memref sig .tc .vmem S576x9 .f32) (harg5 : arg5.IsWhole) (arg6 : Memref sig .tc .vmem S384x3584 .f32) (harg6 : arg6.IsWhole) (arg7 : Memref sig .tc .vmem S192x3584 .bf16) (harg7 : arg7.IsWhole) (arg8 : Memref sig .tc .vmem S192x1 .f32) (harg8 : arg8.IsWhole) (arg9 : Memref sig .tc .vmem S192x1 .f32) (harg9 : arg9.IsWhole) (arg10 : Memref sig .tc .vmem S576x3584 .f32) (harg10 : arg10.IsWhole) (hc0 : ¬cond0_0 i) (hc1 : cond0_1 i)
    (x0 : Vec F S192x8x224 .f32) (x1 : Vec F S192x3584 .f32) (x2 : Vec F S192x8x224 .f32) (x3 : Vec F S576x192 .f32) (x4 : Vec F S576x9 .f32) (xo7 : Vec F S192x1 .f32) (xo8 : Vec F S192x1 .f32) : Vec F S192x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 hc1 x0 x1 x2 x3 x4 xo7 xo8).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S384x3584 .f32 × Vec F S192x3584 .bf16 × Vec F S192x1 .f32 × Vec F S192x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 14 = 0 then
      if h1 : 1 ≤ (n + 1) then
        False.elim (by have hN : n + 1 < 14 := lt_of_lt_of_eq hn (show cfg0.N = 14 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : 1 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)
      else
        False.elim (by have hN : n + 1 < 14 := lt_of_lt_of_eq hn (show cfg0.N = 14 from N_0); omega)

/-- `outsAt0` at a point of case A: that case's contents. -/
theorem outsAt0_A (c : Dev nD) (t : Fin cfg0.N) (h0 : t.val % 14 = 0) (h1 : ¬1 ≤ t.val) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : 1 ≤ t.val) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
    | ⟨8, _⟩ => (outsAt0 V c t.val t.isLt).2.2.2
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem after0_8 (c : Dev nD) (t : Fin cfg0.N) : (dat0 V c).after 8 t = (outsAt0 V c t.val t.isLt).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 14 := lt_of_lt_of_eq t.isLt (show cfg0.N = 14 from N_0)
  rw [after0_7, after0_7]
  by_cases h0 : t.val % 14 = 0
  · by_cases h1 : 1 ≤ t.val
    · exfalso; omega
    · rw [liveAt0_7_A t ((hcond0_0 t).mpr h0) (fun h => h1 ((hcond0_1 t).mp h))] at hi
      exact absurd hi Bool.false_ne_true
  · by_cases h1 : 1 ≤ t.val
    · rw [liveAt0_7_B t (fun h => h0 ((hcond0_0 t).mp h)) ((hcond0_1 t).mpr h1)] at hi
      exact absurd hi Bool.false_ne_true
    · exfalso; omega

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dat0 V c).after 8 t = (dat0 V c).after 8 ⟨t.val - 1, by omega⟩ := by
  intro t _ hi _
  have hN : t.val < 14 := lt_of_lt_of_eq t.isLt (show cfg0.N = 14 from N_0)
  rw [after0_8, after0_8]
  by_cases h0 : t.val % 14 = 0
  · by_cases h1 : 1 ≤ t.val
    · exfalso; omega
    · rw [liveAt0_8_A t ((hcond0_0 t).mpr h0) (fun h => h1 ((hcond0_1 t).mp h))] at hi
      exact absurd hi Bool.false_ne_true
  · by_cases h1 : 1 ≤ t.val
    · rw [liveAt0_8_B t (fun h => h0 ((hcond0_0 t).mp h)) ((hcond0_1 t).mpr h1)] at hi
      exact absurd hi Bool.false_ne_true
    · exfalso; omega
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 14 = 0) (h1 : 1 ≤ t.val) (d) :
    (dat0 V c).before 7 t d = (outsAt0 V c (t.val - 1) (Nat.lt_of_le_of_lt (Nat.sub_le _ _) t.isLt)).2.2.1 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat0]
/-- At a point of case B output 8's current staging buffer holds what the point before left: the buffer is not fresh
    there (`notFresh0_8_B`: stored into since the region's entry or the last write-back, carried through the points that
    leave it idle by `hcarry0_8`; Lib/Pipeline/TableIdle.lean `Dat.before_out_traj`). -/
theorem before0_8_B (c : Dev nD) (t : Fin cfg0.N) (h0 : ¬t.val % 14 = 0) (h1 : 1 ≤ t.val) (d) :
    (dat0 V c).before 8 t d = (outsAt0 V c (t.val - 1) (Nat.lt_of_le_of_lt (Nat.sub_le _ _) t.isLt)).2.2.2 := by
  rw [Dat.before_out_traj _ 8 rfl (fun _ _ => rfl) (hcarry0_8 V c) t.val t rfl d,
    if_neg (by rw [notFresh0_8_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl, PhiA0_eq]
  have hN : t.val < 14 := lt_of_lt_of_eq t.isLt (show cfg0.N = 14 from N_0)
  by_cases h0 : t.val % 14 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h))], after0_7]
      rw [show (dat0 V c).leavesExact 8 t = owns (c : Thread nD τ) (ms0_8 t) fullShare ((dat0 V c).after 8 t) from by
      unfold Dat.leavesExact; rw [liveAt0_8_A t ((hcond0_0 t).mpr h0) (fun h => h1 ((hcond0_1 t).mp h))], after0_8]
      rw [outsAt0_A V c t h0 h1]
      unfold out0_A_5 out0_A_6 out0_A_7 out0_A_8; (try dsimp only)
      iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      iintro ⟨H0, H1, H2, H3, H4, ⟨%e5, H5⟩, ⟨%e6, H6⟩, ⟨%e7, H7⟩, ⟨%e8, H8⟩, ⟨%fT0, HS0⟩⟩
      isplitl [HS0 HR1 HR2 HR3 HR4 HR5 HR6 HR7 HR8 HR9 HR10 HR11 HR12 HR13 HR14 HR15 HR16 Hg]
      · isplitl [HS0 HR1 HR2 HR3 HR4 HR5 HR6 HR7 HR8 HR9 HR10 HR11 HR12 HR13 HR14 HR15 HR16]
        · isplitl [HS0]
          · iexists _; unfold owns; iexists _; isplitr
            swap; · iexact HS0
            ipureintro; rfl
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          iexact HR16
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1)], after0_7]
      rw [show (dat0 V c).leavesExact 8 t = owns (c : Thread nD τ) (ms0_8 t) fullShare ((dat0 V c).after 8 t) from by
      unfold Dat.leavesExact; rw [liveAt0_8_B t (fun h => h0 ((hcond0_0 t).mp h)) ((hcond0_1 t).mpr h1)], after0_8]
      rw [outsAt0_B V c t h0 h1]
      simp only [before0_7_B V c t h0 h1, before0_8_B V c t h0 h1]
      unfold out0_B_5 out0_B_6 out0_B_7 out0_B_8; (try dsimp only)
      iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      isplitl [HS0]; · iexact HS0
      iintro ⟨H0, H1, H2, H3, H4, ⟨%e5, H5⟩, ⟨%e6, H6⟩, ⟨%e7, H7⟩, ⟨%e8, H8⟩, ⟨%fT0, HS0⟩⟩
      isplitl [HS0 HR1 HR2 HR3 HR4 HR5 HR6 HR7 HR8 HR9 HR10 HR11 HR12 HR13 HR14 HR15 HR16 Hg]
      · isplitl [HS0 HR1 HR2 HR3 HR4 HR5 HR6 HR7 HR8 HR9 HR10 HR11 HR12 HR13 HR14 HR15 HR16]
        · isplitl [HS0]
          · iexists _; unfold owns; iexists _; isplitr
            swap; · iexact HS0
            ipureintro; rfl
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          iexact HR16
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.RunI.Region1.lean ====
/- The run of `KernelIdeal`: the second call (the gram matrix of the normalised rows): what its body leaves in its output block, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__p2_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 14 = 0 :=
  (fun t => by
    have ht : t.val < 14 := Nat.lt_of_lt_of_eq t.isLt N_1
    have e0 : (grid1.coords t 0).val = t.val / 1 % 14 := Pipeline.Grid.coords_val t 0 (by decide) rfl
    simp only [cond1_0, k1_cond1, e0]
    word_cmp
   : ∀ t : Fin grid1.N, cond1_0 (grid1.coords t) ↔ t.val % 14 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 14 := Nat.lt_of_lt_of_eq t.isLt N_1
    have e0 : (grid1.coords t 0).val = t.val / 1 % 14 := Pipeline.Grid.coords_val t 0 (by decide) rfl
    simp only [cond1_1, k1_cond2, e0]
    word_cmp
   : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab1_3_step` checks it against the configuration's own
    step point by point and Lib/Pipeline/TableIdle.lean `Cfg.fresh_tab` makes it `Cfg.fresh` (`fresh1_3_eq`). -/
def freshTab1_3 : ℕ → Bool
  | 0 => true
  | n + 1 => (0x2000 : ℕ).testBit n
theorem freshTab1_3_step : ∀ t : Fin cfg1.N,
    freshTab1_3 (t.val + 1) = ((cfg1.win 3).flush t || (cfg1.idle 3 (cfg1.grid.coords t) && freshTab1_3 t.val)) := by decide +kernel
theorem fresh1_3_eq (t : Fin cfg1.N) : cfg1.fresh 3 t.val = freshTab1_3 t.val :=
  Pipeline.Cfg.fresh_tab cfg1 3 freshTab1_3 rfl freshTab1_3_step t.val (Nat.le_of_lt t.isLt)
/-- At the points of case A the printed configuration (`Cfg.idle`) calls output 3 live: the case stores into it. -/
theorem liveAt1_3_A : ∀ t : Fin cfg1.N, cond1_0 (grid1.coords t) → ¬cond1_1 (grid1.coords t) → cfg1.idle 3 (grid1.coords t) = false := by decide +kernel
/-- At the points of case B the printed configuration (`Cfg.idle`) calls output 3 live: the case stores into it. -/
theorem liveAt1_3_B : ∀ t : Fin cfg1.N, ¬cond1_0 (grid1.coords t) → cond1_1 (grid1.coords t) → cfg1.idle 3 (grid1.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab1_3`). -/
theorem notFresh1_3_B : ∀ t : Fin cfg1.N, ¬cond1_0 (grid1.coords t) → cond1_1 (grid1.coords t) → cfg1.fresh 3 t.val = false := by
  intro t; rw [fresh1_3_eq t]; revert t; decide +kernel

/-! ## The kernel body on any staging memrefs: a subtype the run finds -/

/-- One staging buffer of output window 3, through which its contents are stated (`View.read_writes_of_cover`: the
    choice does not matter). -/
abbrev VO1_3 : View sig .tc .vmem S192x192 .f32 := (Memref.whole cc1_stg3_0 : Memref sig .tc .vmem S192x192 .f32).view
/-- Each window's current staging memref at point `t`, spelled as the pipeline passes it (`bodyAt1`), and its wholeness. -/
abbrev ms1_0 (t : Fin cfg1.N) : Memref sig .tc .vmem S384x3584 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S192x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S192x192 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S384x3584 .f32) (harg1 : arg1.IsWhole) (arg2 : Memref sig .tc .vmem S192x1 .f32) (harg2 : arg2.IsWhole) (arg3 : Memref sig .tc .vmem S192x1 .f32) (harg3 : arg3.IsWhole) (arg4 : Memref sig .tc .vmem S192x192 .f32) (harg4 : arg4.IsWhole) (hc0 : cond1_0 i) (hc1 : ¬cond1_1 i)
    (x0 : Vec F S384x3584 .f32) (x1 : Vec F S192x1 .f32) (x2 : Vec F S192x1 .f32) :
    { L3 : List (View.Piece (Elt F) S192x192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__p2_body i arg1 harg1 arg2 harg2 arg3 harg3 arg4 harg4) K } := by
  refine ⟨?_, fun E K => ?run⟩
  case run =>
    simp only [cc1__p2_body_eq_skeleton]; unfold cc1__p2_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- Case A's pieces for output 3 tile its block (1 store of `S192x192`, checked by the kernel's evaluation: Lib/Ring.lean `Piece.tiledL`, linear in the pieces, through a loop's `@[irreducible]` trip theorem too), so they cover it. -/
theorem cover1_A_3 (c : Dev nD) (i : grid1.Coords) (arg1 : Memref sig .tc .vmem S384x3584 .f32) (harg1 : arg1.IsWhole) (arg2 : Memref sig .tc .vmem S192x1 .f32) (harg2 : arg2.IsWhole) (arg3 : Memref sig .tc .vmem S192x1 .f32) (harg3 : arg3.IsWhole) (arg4 : Memref sig .tc .vmem S192x192 .f32) (harg4 : arg4.IsWhole) (hc0 : cond1_0 i) (hc1 : ¬cond1_1 i)
    (x0 : Vec F S384x3584 .f32) (x1 : Vec F S192x1 .f32) (x2 : Vec F S192x1 .f32) (y : S192x192.Idx) :
    ∃ pc ∈ (kernelRun1_A c i arg1 harg1 arg2 harg2 arg3 harg3 arg4 harg4 hc0 hc1 x0 x1 x2).1, y ∈ pc.1.set :=
  View.cover_of_tiledL (kernelRun1_A c i arg1 harg1 arg2 harg2 arg3 harg3 arg4 harg4 hc0 hc1 x0 x1 x2).1 S192x192.size (by sl_kernel_rfl) y

/-- What case A leaves in output 3's staging buffer: its pieces read back over junk. -/
def out1_A_3 (c : Dev nD) (i : grid1.Coords) (arg1 : Memref sig .tc .vmem S384x3584 .f32) (harg1 : arg1.IsWhole) (arg2 : Memref sig .tc .vmem S192x1 .f32) (harg2 : arg2.IsWhole) (arg3 : Memref sig .tc .vmem S192x1 .f32) (harg3 : arg3.IsWhole) (arg4 : Memref sig .tc .vmem S192x192 .f32) (harg4 : arg4.IsWhole) (hc0 : cond1_0 i) (hc1 : ¬cond1_1 i)
    (x0 : Vec F S384x3584 .f32) (x1 : Vec F S192x1 .f32) (x2 : Vec F S192x1 .f32) : Vec F S192x192 .f32 :=
  VO1_3.read (Elt F) (VO1_3.writes (Elt F) VO1_3.junk (kernelRun1_A c i arg1 harg1 arg2 harg2 arg3 harg3 arg4 harg4 hc0 hc1 x0 x1 x2).1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 13: 13 of 14), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S384x3584 .f32) (harg1 : arg1.IsWhole) (arg2 : Memref sig .tc .vmem S192x1 .f32) (harg2 : arg2.IsWhole) (arg3 : Memref sig .tc .vmem S192x1 .f32) (harg3 : arg3.IsWhole) (arg4 : Memref sig .tc .vmem S192x192 .f32) (harg4 : arg4.IsWhole) (hc0 : ¬cond1_0 i) (hc1 : cond1_1 i)
    (x0 : Vec F S384x3584 .f32) (x1 : Vec F S192x1 .f32) (x2 : Vec F S192x1 .f32) (xo3 : Vec F S192x192 .f32) :
    { L3 : List (View.Piece (Elt F) S192x192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__p2_body i arg1 harg1 arg2 harg2 arg3 harg3 arg4 harg4) K } := by
  refine ⟨?_, fun E K => ?run⟩
  case run =>
    simp only [cc1__p2_body_eq_skeleton]; unfold cc1__p2_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- Case B's pieces for output 3 tile its block (1 store of `S192x192`, checked by the kernel's evaluation: Lib/Ring.lean `Piece.tiledL`, linear in the pieces, through a loop's `@[irreducible]` trip theorem too), so they cover it. -/
theorem cover1_B_3 (c : Dev nD) (i : grid1.Coords) (arg1 : Memref sig .tc .vmem S384x3584 .f32) (harg1 : arg1.IsWhole) (arg2 : Memref sig .tc .vmem S192x1 .f32) (harg2 : arg2.IsWhole) (arg3 : Memref sig .tc .vmem S192x1 .f32) (harg3 : arg3.IsWhole) (arg4 : Memref sig .tc .vmem S192x192 .f32) (harg4 : arg4.IsWhole) (hc0 : ¬cond1_0 i) (hc1 : cond1_1 i)
    (x0 : Vec F S384x3584 .f32) (x1 : Vec F S192x1 .f32) (x2 : Vec F S192x1 .f32) (xo3 : Vec F S192x192 .f32) (y : S192x192.Idx) :
    ∃ pc ∈ (kernelRun1_B c i arg1 harg1 arg2 harg2 arg3 harg3 arg4 harg4 hc0 hc1 x0 x1 x2 xo3).1, y ∈ pc.1.set :=
  View.cover_of_tiledL (kernelRun1_B c i arg1 harg1 arg2 harg2 arg3 harg3 arg4 harg4 hc0 hc1 x0 x1 x2 xo3).1 S192x192.size (by sl_kernel_rfl) y

/-- What case B leaves in output 3's staging buffer: its pieces read back over junk. -/
def out1_B_3 (c : Dev nD) (i : grid1.Coords) (arg1 : Memref sig .tc .vmem S384x3584 .f32) (harg1 : arg1.IsWhole) (arg2 : Memref sig .tc .vmem S192x1 .f32) (harg2 : arg2.IsWhole) (arg3 : Memref sig .tc .vmem S192x1 .f32) (harg3 : arg3.IsWhole) (arg4 : Memref sig .tc .vmem S192x192 .f32) (harg4 : arg4.IsWhole) (hc0 : ¬cond1_0 i) (hc1 : cond1_1 i)
    (x0 : Vec F S384x3584 .f32) (x1 : Vec F S192x1 .f32) (x2 : Vec F S192x1 .f32) (xo3 : Vec F S192x192 .f32) : Vec F S192x192 .f32 :=
  VO1_3.read (Elt F) (VO1_3.writes (Elt F) VO1_3.junk (kernelRun1_B c i arg1 harg1 arg2 harg2 arg3 harg3 arg4 harg4 hc0 hc1 x0 x1 x2 xo3).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S192x192 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 14 = 0 then
      if h1 : 1 ≤ (n + 1) then
        False.elim (by have hN : n + 1 < 14 := lt_of_lt_of_eq hn (show cfg1.N = 14 from N_1); omega)
      else
        out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)
    else
      if h1 : 1 ≤ (n + 1) then
        out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn))
      else
        False.elim (by have hN : n + 1 < 14 := lt_of_lt_of_eq hn (show cfg1.N = 14 from N_1); omega)

/-- `outsAt1` at a point of case A: that case's contents. -/
theorem outsAt1_A (c : Dev nD) (t : Fin cfg1.N) (h0 : t.val % 14 = 0) (h1 : ¬1 ≤ t.val) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 14 = 0) (h1 : 1 ≤ t.val) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Output 3's contents CARRY through the points that leave it idle: at such a point, its buffer not fresh, the proof data's
    `after` is the point before's (the case there stores nothing into the window and its term says so; a case that stores
    into it is not idle there by `liveAt1_3_κ`) — the hypothesis of Lib/Pipeline/TableIdle.lean `Dat.before_out_traj`. -/
theorem hcarry1_3 (c : Dev nD) : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  have hN : t.val < 14 := lt_of_lt_of_eq t.isLt (show cfg1.N = 14 from N_1)
  rw [after1_3, after1_3]
  by_cases h0 : t.val % 14 = 0
  · by_cases h1 : 1 ≤ t.val
    · exfalso; omega
    · rw [liveAt1_3_A t ((hcond1_0 t).mpr h0) (fun h => h1 ((hcond1_1 t).mp h))] at hi
      exact absurd hi Bool.false_ne_true
  · by_cases h1 : 1 ≤ t.val
    · rw [liveAt1_3_B t (fun h => h0 ((hcond1_0 t).mp h)) ((hcond1_1 t).mpr h1)] at hi
      exact absurd hi Bool.false_ne_true
    · exfalso; omega
/-- At a point of case B output 3's current staging buffer holds what the point before left: the buffer is not fresh
    there (`notFresh1_3_B`: stored into since the region's entry or the last write-back, carried through the points that
    leave it idle by `hcarry1_3`; Lib/Pipeline/TableIdle.lean `Dat.before_out_traj`). -/
theorem before1_3_B (c : Dev nD) (t : Fin cfg1.N) (h0 : ¬t.val % 14 = 0) (h1 : 1 ≤ t.val) (d) :
    (dat1 V c).before 3 t d = (outsAt1 V c (t.val - 1) (Nat.lt_of_le_of_lt (Nat.sub_le _ _) t.isLt)) := by
  rw [Dat.before_out_traj _ 3 rfl (fun _ _ => rfl) (hcarry1_3 V c) t.val t rfl d,
    if_neg (by rw [notFresh1_3_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  have hN : t.val < 14 := lt_of_lt_of_eq t.isLt (show cfg1.N = 14 from N_1)
  by_cases h0 : t.val % 14 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_A t ((hcond1_0 t).mpr h0) (fun h => h1 ((hcond1_1 t).mp h))], after1_3]
      rw [outsAt1_A V c t h0 h1]
      unfold out1_A_3
      iintro ⟨HΦ, Ho, ⟨%d0, H0⟩, ⟨%d1, H1⟩, ⟨%d2, H2⟩, ⟨%d3, H3⟩⟩
      iapply ((kernelRun1_A c (grid1.coords t) _ _ _ _ _ _ _ _ ((hcond1_0 t).mpr h0) (fun h => h1 ((hcond1_1 t).mp h)) (iblk1 V c 0 t) (iblk1 V c 1 t) (iblk1 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
      rw [outsAt1_B V c t h0 h1]
      simp only [before1_3_B V c t h0 h1]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.RunI.Region2.lean ====
/- The run of `KernelIdeal`: the third call (top-k mask and softmax per head): what its body leaves in its output block, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__p3_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S192x192 := Rect.unit (s := S192x192) ![0, 0] S32x32.size inb_S192x192_S32x32_0_0
abbrev r2_1 : Rect S6x1 := Rect.unit (s := S6x1) ![0, 0] S1x1.size inb_S6x1_S1x1_0_0
abbrev r2_2 : Rect S192x32 := Rect.unit (s := S192x32) ![0, 0] S32x32.size inb_S192x32_S32x32_0_0
abbrev r2_3 : Rect S192x192 := Rect.unit (s := S192x192) ![32, 32] S32x32.size inb_S192x192_S32x32_32_32
abbrev r2_4 : Rect S6x1 := Rect.unit (s := S6x1) ![1, 0] S1x1.size inb_S6x1_S1x1_1_0
abbrev r2_5 : Rect S192x32 := Rect.unit (s := S192x32) ![32, 0] S32x32.size inb_S192x32_S32x32_32_0
abbrev r2_6 : Rect S192x192 := Rect.unit (s := S192x192) ![64, 64] S32x32.size inb_S192x192_S32x32_64_64
abbrev r2_7 : Rect S6x1 := Rect.unit (s := S6x1) ![2, 0] S1x1.size inb_S6x1_S1x1_2_0
abbrev r2_8 : Rect S192x32 := Rect.unit (s := S192x32) ![64, 0] S32x32.size inb_S192x32_S32x32_64_0
abbrev r2_9 : Rect S192x192 := Rect.unit (s := S192x192) ![96, 96] S32x32.size inb_S192x192_S32x32_96_96
abbrev r2_10 : Rect S6x1 := Rect.unit (s := S6x1) ![3, 0] S1x1.size inb_S6x1_S1x1_3_0
abbrev r2_11 : Rect S192x32 := Rect.unit (s := S192x32) ![96, 0] S32x32.size inb_S192x32_S32x32_96_0
abbrev r2_12 : Rect S192x192 := Rect.unit (s := S192x192) ![128, 128] S32x32.size inb_S192x192_S32x32_128_128
abbrev r2_13 : Rect S6x1 := Rect.unit (s := S6x1) ![4, 0] S1x1.size inb_S6x1_S1x1_4_0
abbrev r2_14 : Rect S192x32 := Rect.unit (s := S192x32) ![128, 0] S32x32.size inb_S192x32_S32x32_128_0
abbrev r2_15 : Rect S192x192 := Rect.unit (s := S192x192) ![160, 160] S32x32.size inb_S192x192_S32x32_160_160
abbrev r2_16 : Rect S6x1 := Rect.unit (s := S6x1) ![5, 0] S1x1.size inb_S6x1_S1x1_5_0
abbrev r2_17 : Rect S192x32 := Rect.unit (s := S192x32) ![160, 0] S32x32.size inb_S192x32_S32x32_160_0

/-! ## What the body leaves in each output window's buffer -/

/-! ### Values of the body that the stores' payloads, spelt out, would write more than once

    Each is a vector the body binds (often a part call's result), stated over the input windows' blocks and
    numbered on from the skeleton's payload functions (`k2_pay20` …, after `k2_pay19`), so that
    `out2_W` and the values after it name it instead of spelling it out (`unfold_out out2_W` opens a canon
    with them, `unfold_payloads` opens them with the payloads); the comment after each is the printed function's
    name for the value (a count appended where that name is bound again). -/

def k2_pay20 (x0 : Vec F S192x192 .f32) (x1 : Vec F S6x1 .f32) : IVec S1x32x32 32 :=
  iota .tc S1x32x32 32 [1] iota_S1x32x32_d1_w32 -- `v0`
def k2_pay21 (x0 : Vec F S192x192 .f32) (x1 : Vec F S6x1 .f32) : IVec S1x32x32 32 :=
  iota .tc S1x32x32 32 [2] iota_S1x32x32_d2_w32 -- `v1`

/-- Window 2's staging buffer after the body, from the input windows' blocks: its 6 stores as pieces, LAST
    FIRST (Lib/Pipeline/FrameBody.lean `View.canon`; the payloads are the skeleton's and the values stated above). -/
def out2_2 (x0 : Vec F S192x192 .f32) (x1 : Vec F S6x1 .f32) : Vec F S192x32 .f32 :=
  View.canon [⟨r2_17, k2_pay19 (k2_pay20 x0 x1) (k2_pay21 x0 x1) (View.ld x0 r2_15) (View.ld x1 r2_16)⟩,
    ⟨r2_14, k2_pay18 (k2_pay16 (k2_pay20 x0 x1) (k2_pay21 x0 x1) (View.ld x0 r2_12) (View.ld x1 r2_13)) (k2_pay17 (k2_pay20 x0 x1) (k2_pay21 x0 x1) (View.ld x0 r2_12) (View.ld x1 r2_13))⟩,
    ⟨r2_11, k2_pay14 (k2_pay11 (View.ld x0 r2_9) (View.ld x1 r2_10)) (k2_pay12 (k2_pay20 x0 x1) (k2_pay21 x0 x1) (View.ld x0 r2_9) (View.ld x1 r2_10)) (k2_pay13 (F := F))⟩,
    ⟨r2_8, k2_pay10 (k2_pay20 x0 x1) (k2_pay21 x0 x1) (k2_pay5 (View.ld x0 r2_6) (View.ld x1 r2_7)) (k2_pay8 (View.ld x0 r2_6) (View.ld x1 r2_7)) (k2_pay9 (View.ld x0 r2_6) (View.ld x1 r2_7))⟩,
    ⟨r2_5, k2_pay4 (k2_pay20 x0 x1) (k2_pay21 x0 x1) (k2_pay2 (View.ld x0 r2_3)) (k2_pay3 (View.ld x1 r2_4))⟩,
    ⟨r2_2, k2_pay1 (View.ld x0 r2_0) (View.ld x1 r2_1)⟩]

/-- Its stores tile the buffer (checked by evaluation), so they cover it. -/
theorem cover2_2 (p0 : Vec F S32x32 .f32) (p1 : Vec F S32x32 .f32) (p2 : Vec F S32x32 .f32) (p3 : Vec F S32x32 .f32) (p4 : Vec F S32x32 .f32) (p5 : Vec F S32x32 .f32) (y : S192x32.Idx) :
    ∃ pc ∈ ([⟨r2_17, p0⟩, ⟨r2_14, p1⟩, ⟨r2_11, p2⟩, ⟨r2_8, p3⟩, ⟨r2_5, p4⟩, ⟨r2_2, p5⟩] : List (View.Piece (Elt F) S192x32 .f32)), y ∈ pc.1.set :=
  View.cover_of_tiled [⟨r2_17, p0⟩, ⟨r2_14, p1⟩, ⟨r2_11, p2⟩, ⟨r2_8, p3⟩, ⟨r2_5, p4⟩, ⟨r2_2, p5⟩] S32x32.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S192x192 .f32) (harg0 : arg0.IsWhole) (arg1 : Memref sig .tc .vmem S6x1 .f32) (harg1 : arg1.IsWhole) (arg2 : Memref sig .tc .vmem S192x32 .f32) (harg2 : arg2.IsWhole)
    (x0 : Vec F S192x192 .f32) (x1 : Vec F S6x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__p3_body arg0 harg0 arg1 harg1 arg2 harg2) K := by
  simp only [cc2__p3_body_eq_skeleton]; unfold cc2__p3_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2_2 _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.RunI.Region3.lean ====
/- The run of `KernelIdeal`: the fourth call (attention times values, scale, output projection): what its body leaves in its output block, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__p4_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 4, through which its contents are stated (`View.read_writes_of_cover`: the
    choice does not matter). -/
abbrev VO3_4 : View sig .tc .vmem S192x3584 .f32 := (Memref.whole cc3_stg4_0 : Memref sig .tc .vmem S192x3584 .f32).view
/-- Each window's current staging memref at point `t`, spelled as the pipeline passes it (`bodyAt3`), and its wholeness. -/
abbrev ms3_0 (t : Fin cfg3.N) : Memref sig .tc .vmem S192x3584 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S192x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S192x192 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S192x3584 .f32 := win3_4.stage (cfg3.slots t 4)
abbrev hs3_4 (t : Fin cfg3.N) : (ms3_4 t).IsWhole := hstage3_4 ((cfg3.slots t 4).cast nbuf3_4)
/-- The scratch operands: whole scoped buffers of the kernel's own, passed beside the windows. -/
abbrev scM3_0 : Memref sig .tc .vmem S192x3584 .f32 := Memref.whole cc3_scratch0

/-- The frame kit's invariant with the scratch operands as memrefs owned at some contents (`Gen.scopedRest3_eq`,
    Lib/Memref.lean `owns_whole`): what the body obligation hands the run and takes back. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ d, owns (c : Thread nD τ) scM3_0 fullShare d)) ∗ (∃ r, prngReg c r)) := by
  unfold Pipeline.ΦA; rw [scopedRest3_eq]; simp only [scM3_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg1 : Memref sig .tc .vmem S192x3584 .bf16) (harg1 : arg1.IsWhole) (arg2 : Memref sig .tc .vmem S192x32 .f32) (harg2 : arg2.IsWhole) (arg3 : Memref sig .tc .vmem S192x192 .f32) (harg3 : arg3.IsWhole) (arg4 : Memref sig .tc .vmem S1x1 .f32) (harg4 : arg4.IsWhole) (arg5 : Memref sig .tc .vmem S192x3584 .f32) (harg5 : arg5.IsWhole) (arg6 : Memref sig .tc .vmem S192x3584 .f32) (harg6 : arg6.IsWhole)
    (x0 : Vec F S192x3584 .bf16) (x1 : Vec F S192x32 .f32) (x2 : Vec F S192x192 .f32) (x3 : Vec F S1x1 .f32) :
    Σ' (L4 : List (View.Piece (Elt F) S192x3584 .f32)), { LT0 : List (View.Piece (Elt F) S192x3584 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0)) -∗ K ⟨⟩))
          ⊢ wp frame (wpE (defs₀ (F := F)) Variants.none c none) E (cc3__p4_body i arg1 harg1 arg2 harg2 arg3 harg3 arg4 harg4 arg5 harg5 arg6 harg6) K } := by
  refine ⟨?_, ?_, fun E K => ?run⟩
  case run =>
    simp only [cc3__p4_body_eq_skeleton]; unfold cc3__p4_body_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-- The run's pieces for output 4 tile its block (1 store of `S192x3584`, checked by the kernel's evaluation: Lib/Ring.lean `Piece.tiledL`, linear in the pieces, through a loop's `@[irreducible]` trip theorem too), so they cover it. -/
theorem cover3_A_4 (c : Dev nD) (i : grid3.Coords) (arg1 : Memref sig .tc .vmem S192x3584 .bf16) (harg1 : arg1.IsWhole) (arg2 : Memref sig .tc .vmem S192x32 .f32) (harg2 : arg2.IsWhole) (arg3 : Memref sig .tc .vmem S192x192 .f32) (harg3 : arg3.IsWhole) (arg4 : Memref sig .tc .vmem S1x1 .f32) (harg4 : arg4.IsWhole) (arg5 : Memref sig .tc .vmem S192x3584 .f32) (harg5 : arg5.IsWhole) (arg6 : Memref sig .tc .vmem S192x3584 .f32) (harg6 : arg6.IsWhole)
    (x0 : Vec F S192x3584 .bf16) (x1 : Vec F S192x32 .f32) (x2 : Vec F S192x192 .f32) (x3 : Vec F S1x1 .f32) (y : S192x3584.Idx) :
    ∃ pc ∈ (kernelRun3_A c i arg1 harg1 arg2 harg2 arg3 harg3 arg4 harg4 arg5 harg5 arg6 harg6 x0 x1 x2 x3).1, y ∈ pc.1.set :=
  View.cover_of_tiledL (kernelRun3_A c i arg1 harg1 arg2 harg2 arg3 harg3 arg4 harg4 arg5 harg5 arg6 harg6 x0 x1 x2 x3).1 S192x3584.size (by sl_kernel_rfl) y

/-- What the run leaves in output 4's staging buffer: its pieces read back over junk. -/
def out3_A_4 (c : Dev nD) (i : grid3.Coords) (arg1 : Memref sig .tc .vmem S192x3584 .bf16) (harg1 : arg1.IsWhole) (arg2 : Memref sig .tc .vmem S192x32 .f32) (harg2 : arg2.IsWhole) (arg3 : Memref sig .tc .vmem S192x192 .f32) (harg3 : arg3.IsWhole) (arg4 : Memref sig .tc .vmem S1x1 .f32) (harg4 : arg4.IsWhole) (arg5 : Memref sig .tc .vmem S192x3584 .f32) (harg5 : arg5.IsWhole) (arg6 : Memref sig .tc .vmem S192x3584 .f32) (harg6 : arg6.IsWhole)
    (x0 : Vec F S192x3584 .bf16) (x1 : Vec F S192x32 .f32) (x2 : Vec F S192x192 .f32) (x3 : Vec F S1x1 .f32) : Vec F S192x3584 .f32 :=
  VO3_4.read (Elt F) (VO3_4.writes (Elt F) VO3_4.junk (kernelRun3_A c i arg1 harg1 arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt3 (c : Dev nD) (t : Fin cfg3.N) : Vec F S192x3584 .f32 :=
  out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) (iblk3 V c 0 t) (iblk3 V c 1 t) (iblk3 V c 2 t) (iblk3 V c 3 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

/-- The body at any point: the inputs' memrefs hold their blocks (`before3_W`); so the
    run applies; the invariant hands the body its scratch buffers at some contents (and the generator register) and takes them back at some contents (`PhiA_eq`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  rw [show (dat3 V c).Φ t.castSucc = Pipeline.ΦA spec3 c from rfl, PhiA3_eq]
  unfold outsAt3
  unfold out3_A_4
  iintro ⟨⟨⟨HR0, HR1, HR2, HR3, HR4, HR5, HR6, HR7, HR8, HR9, HR10, HR11, HR12, HR13, HR14, HR15, HR16, HR17, HR18, HR19, HR20, HR21, HR22, HS0⟩, Hg⟩, Ho, ⟨%d0, H0⟩, ⟨%d1, H1⟩, ⟨%d2, H2⟩, ⟨%d3, H3⟩, ⟨%d4, H4⟩⟩
  iapply ((kernelRun3_A c (grid3.coords t) _ _ _ _ _ _ _ _ _ _ _ _ (iblk3 V c 0 t) (iblk3 V c 1 t) (iblk3 V c 2 t) (iblk3 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%fT0, HS0⟩⟩
  isplitl [HR0 HR1 HR2 HR3 HR4 HR5 HR6 HR7 HR8 HR9 HR10 HR11 HR12 HR13 HR14 HR15 HR16 HR17 HR18 HR19 HR20 HR21 HR22 HS0 Hg]
  · isplitl [HR0 HR1 HR2 HR3 HR4 HR5 HR6 HR7 HR8 HR9 HR10 HR11 HR12 HR13 HR14 HR15 HR16 HR17 HR18 HR19 HR20 HR21 HR22 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      isplitl [HR22]
      · iexact HR22
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3_A_4 c _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.RunI.Hosts0.lean ====
/- The run of `KernelIdeal`: the host stretches: which buffers they write. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2, main_call0_v3, main_call0_v4, main_call0_v5, main_call0_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v0]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

end Cert.KernelIdeal.Gen

end
-- ==== Proof.RunI.Fold0.lean ====
/- The run of `KernelIdeal`: the buffer contents at every boundary between the items of @main. -/
module

public import proofs.«01_k».proof.Proof.RunI.Region0
public import proofs.«01_k».proof.Proof.RunI.Region1
public import proofs.«01_k».proof.Proof.RunI.Region2
public import proofs.«01_k».proof.Proof.RunI.Region3
public import proofs.«01_k».proof.Proof.RunI.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
end Cert.KernelIdeal.Gen

end
-- ==== Proof.RunI.State.lean ====
/- The run of `KernelIdeal`: the proof data of the four calls and the thread state. -/
module

public import proofs.«01_k».proof.Proof.RunI.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.KernelIdeal.Gen

end
-- ==== Proof.RunI.Record0.lean ====
/- The run of `KernelIdeal`: the record of the first call over the thread state. -/
module

public import proofs.«01_k».proof.Proof.RunI.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunI.Record1.lean ====
/- The run of `KernelIdeal`: the record of the second call over the thread state. -/
module

public import proofs.«01_k».proof.Proof.RunI.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunI.Record2.lean ====
/- The run of `KernelIdeal`: the record of the third call over the thread state. -/
module

public import proofs.«01_k».proof.Proof.RunI.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunI.Record3.lean ====
/- The run of `KernelIdeal`: the record of the fourth call over the thread state. -/
module

public import proofs.«01_k».proof.Proof.RunI.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunI.Frame.lean ====
/- The run of `KernelIdeal`: @main as segments, and the frame. -/
module

public import proofs.«01_k».proof.Proof.RunI.Record0
public import proofs.«01_k».proof.Proof.RunI.Record1
public import proofs.«01_k».proof.Proof.RunI.Record2
public import proofs.«01_k».proof.Proof.RunI.Record3

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run at any `F`: at the compiled mesh, from any memory with zero counters, every weakly fair execution of @main on
    the TensorCores terminates, nothing faulting, and every final state has each unscoped buffer at the contents of the last
    boundary and every semaphore counter of the machine at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame at any `F`: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c =>
      ⟨(hr.1 c _ (mem_uc main_arg0 (by decide))).trans (W6_main_arg0 m ρ c),
       (hr.1 c _ (mem_uc main_arg1 (by decide))).trans (W6_main_arg1 m ρ c),
       (hr.1 c _ (mem_uc main_arg2 (by decide))).trans (W6_main_arg2 m ρ c),
       (hr.1 c _ (mem_uc main_arg3 (by decide))).trans (W6_main_arg3 m ρ c),
       (hr.1 c _ (mem_uc main_arg4 (by decide))).trans (W6_main_arg4 m ρ c),
       (hr.1 c _ (mem_uc main_arg5 (by decide))).trans (W6_main_arg5 m ρ c)⟩, hr.2⟩) (run_all m ρ)

/-- The run with the result named: the result array ends at the last boundary's contents, the arguments as launched. -/
theorem run_out : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c =>
      ⟨hr.1 c _ (mem_uc main_v0 (by decide)),
       (hr.1 c _ (mem_uc main_arg0 (by decide))).trans (W6_main_arg0 m ρ c),
       (hr.1 c _ (mem_uc main_arg1 (by decide))).trans (W6_main_arg1 m ρ c),
       (hr.1 c _ (mem_uc main_arg2 (by decide))).trans (W6_main_arg2 m ρ c),
       (hr.1 c _ (mem_uc main_arg3 (by decide))).trans (W6_main_arg3 m ρ c),
       (hr.1 c _ (mem_uc main_arg4 (by decide))).trans (W6_main_arg4 m ρ c),
       (hr.1 c _ (mem_uc main_arg5 (by decide))).trans (W6_main_arg5 m ρ c)⟩) (run_all m ρ)

end Cert.KernelIdeal.Gen

end
-- ==== Proof.Val.Spec.lean ====
/- The mathematics of the block, over the extended reals: a pointwise projection, a depthwise 3×3 convolution with a zero
   border, the normalised channel-by-channel products of queries and keys, a softmax over each row's sixteen largest
   entries, and the projected result. -/
module

public import Idealize.ShloMosaic.PureOps.Ideal.Laws

@[expose] public section

noncomputable section

namespace Cert.Spec

open Idealize.ShloMosaic

/-- The projected image with a border of one zero on each side, at a row and a column of the bordered image. -/
def yp (W : Fin 576 → Fin 192 → EReal) (X : Fin 192 → Fin 224 → Fin 224 → EReal) (o : Fin 576) (a b : ℕ) : EReal :=
  if h : (1 ≤ a ∧ a ≤ 224) ∧ 1 ≤ b ∧ b ≤ 224 then ∑ c : Fin 192, W o c * X c ⟨a - 1, by omega⟩ ⟨b - 1, by omega⟩ else 0

/-- The nine taps of a 3×3 convolution whose top left corner is at row `h`, column `w`. -/
def conv (g : ℕ → ℕ → EReal) (d : Fin 9 → EReal) (h w : ℕ) : EReal :=
  d 0 * g h w + d 1 * g h (w + 1) + d 2 * g h (w + 2) + d 3 * g (h + 1) w + d 4 * g (h + 1) (w + 1) + d 5 * g (h + 1) (w + 2)
    + d 6 * g (h + 2) w + d 7 * g (h + 2) (w + 1) + d 8 * g (h + 2) (w + 2)

/-- Queries, keys and values: channel `o` of the convolved image at pixel `n`, counted row by row. -/
def z (W : Fin 576 → Fin 192 → EReal) (X : Fin 192 → Fin 224 → Fin 224 → EReal) (D : Fin 576 → Fin 9 → EReal)
    (o : Fin 576) (n : ℕ) : EReal := conv (yp W X o) (D o) (n / 224) (n % 224)

/-- The sum of squares of a channel over all pixels. -/
def sq (Z : Fin 576 → ℕ → EReal) (o : Fin 576) : EReal := ∑ n : Fin 50176, Z o n.val * Z o n.val

/-- A channel's length, at least the smallest divisor. -/
def len (s : EReal) : EReal := max (Ideal.sqrt s) (Ideal.ofBits .f32 0x2B8CBCCC#32)

/-- The product of two channels of unit length. -/
def gram (Z : Fin 576 → ℕ → EReal) (r s : Fin 576) : EReal :=
  ∑ n : Fin 50176, Ideal.div (Z r n.val) (len (sq Z r)) * Ideal.div (Z s n.val) (len (sq Z s))

/-- Entry `j` of a row is kept when fewer than sixteen entries come before it in decreasing order, equal ones by position. -/
def kept (a : Fin 32 → EReal) (j : Fin 32) : Prop :=
  (Finset.univ.filter fun i : Fin 32 => a j < a i ∨ (a i = a j ∧ i < j)).card < 16

open Classical in
/-- A row with every entry that is not kept lowered to minus infinity. -/
def masked (a : Fin 32 → EReal) (j : Fin 32) : EReal := if kept a j then a j else ⊥

/-- The largest entry kept. -/
def top (a : Fin 32 → EReal) : EReal := Finset.univ.fold max ⊥ (masked a)

/-- The softmax of the entries kept, `0` at the others. -/
def soft (a : Fin 32 → EReal) (j : Fin 32) : EReal :=
  Ideal.div (Ideal.exp (masked a j - top a)) (∑ i, Ideal.exp (masked a i - top a))

/-- The attention weights of channel `c` of a head on that head's 32 channels. -/
def attn (Z : Fin 576 → ℕ → EReal) (T : Fin 6 → EReal) (c : Fin 192) : Fin 32 → EReal :=
  soft fun d => gram Z ⟨c.val, by omega⟩ ⟨192 + c.val / 32 * 32 + d.val, by omega⟩ * T ⟨c.val / 32, by omega⟩

/-- The weighted values of channel `c`, scaled. -/
def mix (Z : Fin 576 → ℕ → EReal) (T : Fin 6 → EReal) (A : EReal) (c : Fin 192) (n : ℕ) : EReal :=
  (∑ d : Fin 32, attn Z T c d * Z ⟨384 + c.val / 32 * 32 + d.val, by omega⟩ n) * A

/-- The projected result: channel `o` at pixel `n`. -/
def out (Z : Fin 576 → ℕ → EReal) (T : Fin 6 → EReal) (A : EReal) (P : Fin 192 → Fin 192 → EReal) (o : Fin 192) (n : ℕ) : EReal :=
  ∑ c : Fin 192, P o c * mix Z T A c n

/-- The left border is zero. -/
theorem yp_left (W : Fin 576 → Fin 192 → EReal) (X : Fin 192 → Fin 224 → Fin 224 → EReal) (o : Fin 576) (a : ℕ) : yp W X o a 0 = 0 :=
  dif_neg (by omega)

/-- The right border is zero. -/
theorem yp_right (W : Fin 576 → Fin 192 → EReal) (X : Fin 192 → Fin 224 → Fin 224 → EReal) (o : Fin 576) (a : ℕ) : yp W X o a 225 = 0 :=
  dif_neg (by omega)

end Cert.Spec
-- ==== Proof.Val.Conv.lean ====
/- The first call's block, computed: the pieces of its body read at an index of the block. -/
module

public import proofs.«01_k».proof.Proof.Gen.KernelIdeal.Skeleton
public import Idealize.ShloMosaic.Lib.Pointwise
public import proofs.«01_k».proof.Proof.Val.Spec

@[expose] public section

set_option maxRecDepth 16384

noncomputable section

namespace Cert.KernelIdeal.Gen

open Idealize.ShloMosaic Idealize.ShloMosaic.TcCoe Idealize.ShloMosaic.Tactic

/-- The scratch after the ninth tap, as a function of what the body loads: the row above, the block, the row below, the
    projection weights and the nine columns of the depthwise weights. -/
def zblk (i : grid0.Coords) (xt xb : Vec Ideal S192x1x224 .f32) (x1 : Vec Ideal S192x3584 .f32) (w1 : Vec Ideal S576x192 .f32)
    (d0 d1 d2 d3 d4 d5 d6 d7 d8 : Vec Ideal S576x1 .f32) : FVec Ideal S576x3584 .f32 :=
  k0_pay1 (F := Ideal) (k0_pay23 (F := Ideal) (k0_pay11 (F := Ideal) k0_pay8) (k0_pay12 (F := Ideal) (k0_pay7 (F := Ideal) i xt xb x1 w1)) d8)
    (k0_pay22 (F := Ideal) (k0_pay12 (F := Ideal) (k0_pay7 (F := Ideal) i xt xb x1 w1)) d7
      (k0_pay21 (F := Ideal) (k0_pay10 (F := Ideal) k0_pay9) (k0_pay12 (F := Ideal) (k0_pay7 (F := Ideal) i xt xb x1 w1)) d6
        (k0_pay20 (F := Ideal) (k0_pay19 (F := Ideal) (k0_pay11 (F := Ideal) k0_pay8) (k0_pay12 (F := Ideal) (k0_pay7 (F := Ideal) i xt xb x1 w1)) d5)
          (k0_pay18 (F := Ideal) (k0_pay12 (F := Ideal) (k0_pay7 (F := Ideal) i xt xb x1 w1)) d4
            (k0_pay17 (F := Ideal) (k0_pay10 (F := Ideal) k0_pay9) (k0_pay12 (F := Ideal) (k0_pay7 (F := Ideal) i xt xb x1 w1)) d3
              (k0_pay16 (F := Ideal) (k0_pay15 (F := Ideal) (k0_pay7 (F := Ideal) i xt xb x1 w1) k0_pay8 d2)
                (k0_pay14 (F := Ideal) (k0_pay7 (F := Ideal) i xt xb x1 w1) d1 (k0_pay13 (F := Ideal) (k0_pay7 (F := Ideal) i xt xb x1 w1) k0_pay9 d0))))))))

/-- The left mask at a column of the block: `0` in the image's first column, `1` elsewhere. -/
theorem left_apply (n : Fin 3584) : k0_pay10 (F := Ideal) k0_pay9 (ix2 0 n) = if n.val % 224 = 0 then (0 : EReal) else 1 := by
  have key : ∀ n : Fin 3584, k0_pay9 (ix2 0 n) = if n.val % 224 = 0 then 0#1 else 1#1 := by decide +kernel
  pointwise [k0_pay10]
  rw [key n]
  split
  · show ((_ : ℝ) : EReal) = 0
    norm_num
  · show ((_ : ℝ) : EReal) = 1
    norm_num

/-- The right mask: `0` in the image's last column, `1` elsewhere. -/
theorem right_apply (n : Fin 3584) : k0_pay11 (F := Ideal) k0_pay8 (ix2 0 n) = if n.val % 224 = 223 then (0 : EReal) else 1 := by
  have key : ∀ n : Fin 3584, IntOp.cmpi .ne (k0_pay8 (ix2 0 n)) 223#32 = if n.val % 224 = 223 then 0#1 else 1#1 := by decide +kernel
  pointwise [k0_pay11]
  rw [key n]
  split
  · show ((_ : ℝ) : EReal) = 0
    norm_num
  · show ((_ : ℝ) : EReal) = 1
    norm_num

/-- The projected rows padded by one zero at each end, read at an index. -/
theorem pad_apply (Y : FVec Ideal S576x4032 .f32) (o : Fin 576) (n : Fin 4034) :
    k0_pay12 (F := Ideal) Y (ix2 o n) = if h : n.val < 1 then (0 : EReal) else if h : n.val - 1 < 4032 then Y (ix2 o ⟨n.val - 1, h⟩) else 0 := by
  pointwise [k0_pay12]

/-- The padded projected rows seen from column `n` of the block, one column to the left and `k` rows down: with the left
    mask, the bordered image there. -/
theorem tap_left (Y : FVec Ideal S576x4032 .f32) (o : Fin 576) (n : Fin 3584) (b : ℕ) (g : ℕ → ℕ → EReal) (k q : ℕ) (hk : k ≤ 2)
    (hq : q = 224 * k + n.val) (hq' : q < 4034)
    (hY : ∀ m : Fin 4032, Y (ix2 o m) = g (b + m.val / 224) (m.val % 224 + 1)) (hg : ∀ a, g a 0 = 0) :
    k0_pay12 (F := Ideal) Y (ix2 o ⟨q, hq'⟩) * k0_pay10 (F := Ideal) k0_pay9 (ix2 0 n) = g (b + n.val / 224 + k) (n.val % 224) := by
  rw [left_apply]
  by_cases h : n.val % 224 = 0
  · rw [if_pos h, h, hg]; exact mul_zero _
  · rw [if_neg h, pad_apply, dif_neg (by show ¬q < 1; omega), dif_pos (by show q - 1 < 4032; omega), hY]
    refine (mul_one _).trans (congrArg₂ g ?_ ?_)
    · show b + (q - 1) / 224 = _; omega
    · show (q - 1) % 224 + 1 = _; omega

/-- The same in the column itself, which needs no mask. -/
theorem tap_mid (Y : FVec Ideal S576x4032 .f32) (o : Fin 576) (n : Fin 3584) (b : ℕ) (g : ℕ → ℕ → EReal) (k q : ℕ) (hk : k ≤ 2)
    (hq : q = 224 * k + 1 + n.val) (hq' : q < 4034)
    (hY : ∀ m : Fin 4032, Y (ix2 o m) = g (b + m.val / 224) (m.val % 224 + 1)) :
    k0_pay12 (F := Ideal) Y (ix2 o ⟨q, hq'⟩) = g (b + n.val / 224 + k) (n.val % 224 + 1) := by
  rw [pad_apply, dif_neg (by show ¬q < 1; omega), dif_pos (by show q - 1 < 4032; omega), hY]
  refine congrArg₂ g ?_ ?_
  · show b + (q - 1) / 224 = _; omega
  · show (q - 1) % 224 + 1 = _; omega

/-- The same one column to the right, with the right mask. -/
theorem tap_right (Y : FVec Ideal S576x4032 .f32) (o : Fin 576) (n : Fin 3584) (b : ℕ) (g : ℕ → ℕ → EReal) (k q : ℕ) (hk : k ≤ 2)
    (hq : q = 224 * k + 2 + n.val) (hq' : q < 4034)
    (hY : ∀ m : Fin 4032, Y (ix2 o m) = g (b + m.val / 224) (m.val % 224 + 1)) (hg : ∀ a, g a 225 = 0) :
    k0_pay12 (F := Ideal) Y (ix2 o ⟨q, hq'⟩) * k0_pay11 (F := Ideal) k0_pay8 (ix2 0 n) = g (b + n.val / 224 + k) (n.val % 224 + 2) := by
  rw [right_apply]
  by_cases h : n.val % 224 = 223
  · rw [if_pos h, h, hg]; exact mul_zero _
  · rw [if_neg h, pad_apply, dif_neg (by show ¬q < 1; omega), dif_pos (by show q - 1 < 4032; omega), hY]
    refine (mul_one _).trans (congrArg₂ g ?_ ?_)
    · show b + (q - 1) / 224 = _; omega
    · show (q - 1) % 224 + 1 = _; omega

/-- The nine taps at an index of the block: the convolution of the bordered image. -/
theorem zblk_taps (i : grid0.Coords) (xt xb : Vec Ideal S192x1x224 .f32) (x1 : Vec Ideal S192x3584 .f32) (w1 : Vec Ideal S576x192 .f32)
    (d0 d1 d2 d3 d4 d5 d6 d7 d8 : Vec Ideal S576x1 .f32) (o : Fin 576) (n : Fin 3584) (b : ℕ) (g : ℕ → ℕ → EReal) (D : Fin 9 → EReal)
    (hY : ∀ m : Fin 4032, k0_pay7 (F := Ideal) i xt xb x1 w1 (ix2 o m) = g (b + m.val / 224) (m.val % 224 + 1))
    (hg : ∀ a, g a 0 = 0) (hg' : ∀ a, g a 225 = 0)
    (h0 : d0 (ix2 o 0) = D 0) (h1 : d1 (ix2 o 0) = D 1) (h2 : d2 (ix2 o 0) = D 2) (h3 : d3 (ix2 o 0) = D 3) (h4 : d4 (ix2 o 0) = D 4)
    (h5 : d5 (ix2 o 0) = D 5) (h6 : d6 (ix2 o 0) = D 6) (h7 : d7 (ix2 o 0) = D 7) (h8 : d8 (ix2 o 0) = D 8) :
    zblk i xt xb x1 w1 d0 d1 d2 d3 d4 d5 d6 d7 d8 (ix2 o n) = Spec.conv g D (b + n.val / 224) (n.val % 224) := by
  unfold zblk
  generalize k0_pay7 (F := Ideal) i xt xb x1 w1 = Y at hY
  have L := fun k q hk hq hq' => tap_left Y o n b g k q hk hq hq' hY hg
  have M := fun k q hk hq hq' => tap_mid Y o n b g k q hk hq hq' hY
  have R := fun k q hk hq hq' => tap_right Y o n b g k q hk hq hq' hY hg'
  have hn := n.isLt
  generalize k0_pay9 = ml at L
  generalize k0_pay8 = mr at R
  pointwise [k0_pay1, k0_pay13, k0_pay14, k0_pay15, k0_pay16, k0_pay17, k0_pay18, k0_pay19, k0_pay20, k0_pay21, k0_pay22, k0_pay23]
  rw [L 0 n.val (by omega) (by omega) (by omega), M 0 (1 + n.val) (by omega) (by omega) (by omega),
    R 0 (2 + n.val) (by omega) (by omega) (by omega), L 1 (224 + n.val) (by omega) (by omega) (by omega),
    M 1 (225 + n.val) (by omega) (by omega) (by omega), R 1 (226 + n.val) (by omega) (by omega) (by omega),
    L 2 (448 + n.val) (by omega) (by omega) (by omega), M 2 (449 + n.val) (by omega) (by omega) (by omega),
    R 2 (450 + n.val) (by omega) (by omega) (by omega), h0, h1, h2, h3, h4, h5, h6, h7, h8]
  rfl

/-- The projected rows of the block (one above, sixteen, one below), read at an index. -/
theorem ext_apply (i : grid0.Coords) (xt xb : Vec Ideal S192x1x224 .f32) (x1 : Vec Ideal S192x3584 .f32) (w1 : Vec Ideal S576x192 .f32)
    (o : Fin 576) (n : Fin 4032) : k0_pay7 (F := Ideal) i xt xb x1 w1 (ix2 o n)
      = ∑ x : Fin 192, w1 (ix2 o x) * (if h : n.val < 224 then (if (i 0).val = 0 then (0 : EReal) else xt (ix3 x 0 ⟨n.val, h⟩))
          else if h' : n.val - 224 < 3584 then x1 (ix2 x ⟨n.val - 224, h'⟩)
          else if (i 0).val = 13 then 0 else xb (ix3 x 0 ⟨n.val - 224 - 3584, by omega⟩)) := by
  have h0 : ∀ k : Fin 14, Scalar.cmpi CmpIPredicate.eq (BitVec.ofNat 32 k.val) 0#32 = if k.val = 0 then 1#1 else 0#1 := by decide
  have h1 : ∀ k : Fin 14, Scalar.cmpi CmpIPredicate.eq (BitVec.ofNat 32 k.val) 13#32 = if k.val = 13 then 1#1 else 0#1 := by decide
  pointwise [k0_pay7]
  rw [h0 (i 0), h1 (i 0)]
  refine Finset.sum_congr rfl fun x _ => ?_
  congr 1
  split
  · split <;> rfl
  · split
    · rfl
    · split <;> rfl
/-- They are the rows of the bordered image from row `16 t` on, when the loads are the image's. -/
theorem ext_eq (t : ℕ) (i : grid0.Coords) (hi : (i 0).val = t) (xt xb : Vec Ideal S192x1x224 .f32) (x1 : Vec Ideal S192x3584 .f32)
    (w1 : Vec Ideal S576x192 .f32) (W : Fin 576 → Fin 192 → EReal) (X : Fin 192 → Fin 224 → Fin 224 → EReal)
    (hw : ∀ o c, w1 (ix2 o c) = W o c)
    (ht : ∀ (c : Fin 192) (w : Fin 224) (h : 1 ≤ t) (h' : 16 * t - 1 < 224), xt (ix3 c 0 w) = X c ⟨16 * t - 1, h'⟩ w)
    (hb : ∀ (c : Fin 192) (w : Fin 224) (h' : 16 * t + 16 < 224), xb (ix3 c 0 w) = X c ⟨16 * t + 16, h'⟩ w)
    (hx : ∀ (c : Fin 192) (n : Fin 3584) (h : 16 * t + n.val / 224 < 224),
      x1 (ix2 c n) = X c ⟨16 * t + n.val / 224, h⟩ ⟨n.val % 224, Nat.mod_lt _ (by omega)⟩)
    (o : Fin 576) (m : Fin 4032) :
    k0_pay7 (F := Ideal) i xt xb x1 w1 (ix2 o m) = Spec.yp W X o (16 * t + m.val / 224) (m.val % 224 + 1) := by
  have hT : t < 14 := hi ▸ (i 0).isLt
  have hm := m.isLt
  rw [ext_apply, hi]
  unfold Spec.yp
  by_cases h1 : m.val < 224
  · simp only [dif_pos h1]
    by_cases h0 : t = 0
    · rw [dif_neg (by omega)]
      simp only [if_pos h0, mul_zero, Finset.sum_const_zero]
    · rw [dif_pos (by omega)]
      refine Finset.sum_congr rfl fun c _ => ?_
      rw [if_neg h0, hw, ht c _ (by omega) (by omega)]
      congr 2
      · apply Fin.ext; show 16 * t - 1 = 16 * t + m.val / 224 - 1; omega
      · apply Fin.ext; show m.val = m.val % 224 + 1 - 1; omega
  · simp only [dif_neg h1]
    by_cases h2 : m.val - 224 < 3584
    · simp only [dif_pos h2]
      rw [dif_pos (by omega)]
      refine Finset.sum_congr rfl fun c _ => ?_
      rw [hw, hx c _ (by show 16 * t + (m.val - 224) / 224 < 224; omega)]
      congr 2
      · apply Fin.ext; show 16 * t + (m.val - 224) / 224 = 16 * t + m.val / 224 - 1; omega
      · apply Fin.ext; show (m.val - 224) % 224 = m.val % 224 + 1 - 1; omega
    · simp only [dif_neg h2]
      by_cases h3 : t = 13
      · rw [dif_neg (by omega)]
        simp only [if_pos h3, mul_zero, Finset.sum_const_zero]
      · rw [dif_pos (by omega)]
        refine Finset.sum_congr rfl fun c _ => ?_
        rw [if_neg h3, hw, hb c _ (by omega)]
        congr 2
        · apply Fin.ext; show 16 * t + 16 = 16 * t + m.val / 224 - 1; omega
        · apply Fin.ext; show m.val - 224 - 3584 = m.val % 224 + 1 - 1; omega

end Cert.KernelIdeal.Gen
-- ==== Proof.Val.Mat.lean ====
/- The second and the fourth call's blocks, computed. -/
module

public import proofs.«01_k».proof.Proof.Gen.KernelIdeal.Skeleton
public import Idealize.ShloMosaic.Lib.Pointwise
public import proofs.«01_k».proof.Proof.Val.Spec

@[expose] public section

set_option maxRecDepth 16384

noncomputable section

namespace Cert.KernelIdeal.Gen

open Idealize.ShloMosaic Idealize.ShloMosaic.TcCoe Idealize.ShloMosaic.Tactic

/-- The products of unit queries and unit keys over a block, at a pair of channels. -/
theorem gram_apply (s1 s2 : Vec Ideal S192x1 .f32) (q k : Vec Ideal S192x3584 .f32) (r s : Fin 192) :
    k1_pay1 (F := Ideal) s1 s2 q k (ix2 r s)
      = ∑ n : Fin 3584, Ideal.div (q (ix2 r n)) (Spec.len (s1 (ix2 r 0))) * Ideal.div (k (ix2 s n)) (Spec.len (s2 (ix2 s 0))) := by
  pointwise [k1_pay1]
  rfl

/-- The running products: what is held, plus the block's products. -/
theorem gram_step (s1 s2 : Vec Ideal S192x1 .f32) (q k : Vec Ideal S192x3584 .f32) (a : Vec Ideal S192x192 .f32) (r s : Fin 192) :
    k1_pay2 (F := Ideal) s1 s2 q k a (ix2 r s) = (a (ix2 r s) : EReal) + k1_pay1 (F := Ideal) s1 s2 q k (ix2 r s) := by
  pointwise [k1_pay2]

/-- Values are the scratch's rows, in the narrower format. -/
theorem val_apply (v : Vec Ideal S192x3584 .f32) (r : Fin 192) (n : Fin 3584) : k0_pay2 (F := Ideal) v (ix2 r n) = v (ix2 r n) := rfl

/-- A block's sum of squares of the queries, at a channel. -/
theorem sq_apply (q : Vec Ideal S192x3584 .f32) (r : Fin 192) :
    k0_pay3 (F := Ideal) q (ix2 r 0) = ∑ n : Fin 3584, (q (ix2 r n) : EReal) * q (ix2 r n) := by
  pointwise [k0_pay3]

/-- A block's sum of squares of the keys, at a channel. -/
theorem sq_apply' (q : Vec Ideal S192x3584 .f32) (r : Fin 192) :
    k0_pay4 (F := Ideal) q (ix2 r 0) = ∑ n : Fin 3584, (q (ix2 r n) : EReal) * q (ix2 r n) := by
  pointwise [k0_pay4]

/-- The running sum of squares of the queries. -/
theorem sq_step (q : Vec Ideal S192x3584 .f32) (a : Vec Ideal S192x1 .f32) (r : Fin 192) :
    k0_pay5 (F := Ideal) q a (ix2 r 0) = (a (ix2 r 0) : EReal) + k0_pay3 (F := Ideal) q (ix2 r 0) := by
  pointwise [k0_pay5]

/-- The running sum of squares of the keys. -/
theorem sq_step' (q : Vec Ideal S192x3584 .f32) (a : Vec Ideal S192x1 .f32) (r : Fin 192) :
    k0_pay6 (F := Ideal) q a (ix2 r 0) = (a (ix2 r 0) : EReal) + k0_pay4 (F := Ideal) q (ix2 r 0) := by
  pointwise [k0_pay6]

/-- The projected block at a channel and a pixel. -/
theorem proj_apply (m : Vec Ideal S192x3584 .f32) (a : Vec Ideal S1x1 .f32) (p : Vec Ideal S192x192 .f32) (o : Fin 192) (n : Fin 3584) :
    k3_pay3 (F := Ideal) m a p (ix2 o n) = ∑ c : Fin 192, (p (ix2 o c) : EReal) * (m (ix2 c n) * a (ix2 0 0)) := by
  pointwise [k3_pay3]

/-- Head 0: the weighted values of a block. -/
theorem mix0 (a : Vec Ideal S192x32 .f32) (v : Vec Ideal S32x3584 .bf16) (r : Fin 32) (n : Fin 3584) :
    k3_pay5 (F := Ideal) a v (ix2 r n) = ∑ d : Fin 32, (a (ix2 ⟨r.val, by omega⟩ d) : EReal) * v (ix2 d n) := by
  pointwise [k3_pay5, k3_pay4]

/-- Head 1: the weighted values of a block. -/
theorem mix1 (a : Vec Ideal S192x32 .f32) (v : Vec Ideal S32x3584 .bf16) (r : Fin 32) (n : Fin 3584) :
    k3_pay6 (F := Ideal) a v (ix2 r n) = ∑ d : Fin 32, (a (ix2 ⟨32 + r.val, by omega⟩ d) : EReal) * v (ix2 d n) := by
  pointwise [k3_pay6, k3_pay4]

/-- Head 2: the weighted values of a block. -/
theorem mix2 (a : Vec Ideal S192x32 .f32) (v : Vec Ideal S32x3584 .bf16) (r : Fin 32) (n : Fin 3584) :
    k3_pay7 (F := Ideal) a v (ix2 r n) = ∑ d : Fin 32, (a (ix2 ⟨64 + r.val, by omega⟩ d) : EReal) * v (ix2 d n) := by
  pointwise [k3_pay7, k3_pay4]

/-- Head 3: the weighted values of a block. -/
theorem mix3 (a : Vec Ideal S192x32 .f32) (v : Vec Ideal S32x3584 .bf16) (r : Fin 32) (n : Fin 3584) :
    k3_pay8 (F := Ideal) a v (ix2 r n) = ∑ d : Fin 32, (a (ix2 ⟨96 + r.val, by omega⟩ d) : EReal) * v (ix2 d n) := by
  pointwise [k3_pay8, k3_pay4]

/-- Head 4: the weighted values of a block. -/
theorem mix4 (a : Vec Ideal S192x32 .f32) (v : Vec Ideal S32x3584 .bf16) (r : Fin 32) (n : Fin 3584) :
    k3_pay1 (F := Ideal) (k3_pay9 (F := Ideal) a) v (ix2 r n) = ∑ d : Fin 32, (a (ix2 ⟨128 + r.val, by omega⟩ d) : EReal) * v (ix2 d n) := by
  pointwise [k3_pay1, k3_pay9, k3_pay4]

/-- Head 5: the weighted values of a block. -/
theorem mix5 (a : Vec Ideal S192x32 .f32) (v : Vec Ideal S32x3584 .bf16) (r : Fin 32) (n : Fin 3584) :
    k3_pay2 (F := Ideal) (k3_pay4 (F := Ideal) a) v (ix2 r n) = ∑ d : Fin 32, (a (ix2 ⟨160 + r.val, by omega⟩ d) : EReal) * v (ix2 d n) := by
  pointwise [k3_pay2, k3_pay4]

end Cert.KernelIdeal.Gen
-- ==== Proof.Val.Out0.lean ====
/- The first call's outputs at a grid point: rows of the convolved block, and running sums of squares. -/
module

public import proofs.«01_k».proof.Proof.RunI.Region0
public import proofs.«01_k».proof.Proof.Val.Conv
public import proofs.«01_k».proof.Proof.Val.Mat
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The rows the kernel leaves in its scratch at point `t`: the convolved block of all 576 channels. -/
def zT (c : Dev nD) (t : Fin cfg0.N) : Vec Ideal S576x3584 .f32 :=
  zblk (grid0.coords t)
    (View.ld (iblk0 V c 0 t) (Rect.unit ![0, 7, 0] ![192, 1, 224] inb_S192x8x224_S192x1x224_0_7_0))
    (View.ld (iblk0 V c 2 t) (Rect.unit ![0, 0, 0] ![192, 1, 224] inb_S192x8x224_S192x1x224_0_0_0))
    (iblk0 V c 1 t) (iblk0 V c 3 t)
    (View.ld (iblk0 V c 4 t) (Rect.unit ![0, 0] ![576, 1] inb_S576x9_S576x1_0_0))
    (View.ld (iblk0 V c 4 t) (Rect.unit ![0, 1] ![576, 1] inb_S576x9_S576x1_0_1))
    (View.ld (iblk0 V c 4 t) (Rect.unit ![0, 2] ![576, 1] inb_S576x9_S576x1_0_2))
    (View.ld (iblk0 V c 4 t) (Rect.unit ![0, 3] ![576, 1] inb_S576x9_S576x1_0_3))
    (View.ld (iblk0 V c 4 t) (Rect.unit ![0, 4] ![576, 1] inb_S576x9_S576x1_0_4))
    (View.ld (iblk0 V c 4 t) (Rect.unit ![0, 5] ![576, 1] inb_S576x9_S576x1_0_5))
    (View.ld (iblk0 V c 4 t) (Rect.unit ![0, 6] ![576, 1] inb_S576x9_S576x1_0_6))
    (View.ld (iblk0 V c 4 t) (Rect.unit ![0, 7] ![576, 1] inb_S576x9_S576x1_0_7))
    (View.ld (iblk0 V c 4 t) (Rect.unit ![0, 8] ![576, 1] inb_S576x9_S576x1_0_8))

/-- The queries' rows of it. -/
def zq (c : Dev nD) (t : Fin cfg0.N) : Vec Ideal S192x3584 .f32 :=
  View.ld (zT V c t) (Rect.unit ![0, 0] ![192, 3584] inb_S576x3584_S192x3584_0_0)

/-- The keys' rows of it. -/
def zk (c : Dev nD) (t : Fin cfg0.N) : Vec Ideal S192x3584 .f32 :=
  View.ld (zT V c t) (Rect.unit ![192, 0] ![192, 3584] inb_S576x3584_S192x3584_192_0)

/-- The values' rows of it. -/
def zv (c : Dev nD) (t : Fin cfg0.N) : Vec Ideal S192x3584 .f32 :=
  View.ld (zT V c t) (Rect.unit ![384, 0] ![192, 3584] inb_S576x3584_S192x3584_384_0)

/-- Rows of a block of 576 rows. -/
theorem ld_rows (X : Vec Ideal S576x3584 .f32) (a : ℕ) (ha : a + 192 ≤ 576) (inb) (r : Fin 192) (n : Fin 3584) :
    View.ld (Val := Elt Ideal) (e' := .f32) X (Rect.unit ![a, 0] ![192, 3584] inb) (ix2 r n) = X (ix2 ⟨a + r.val, by omega⟩ n) := by
  refine View.ld_unit_apply_of X ![a, 0] ![192, 3584] inb (ix2 r n) (ix2 ⟨a + r.val, by omega⟩ n) fun k => ?_
  fin_cases k
  · rfl
  · exact (Nat.zero_add _).symm

/-- The queries' rows at an index. -/
theorem zq_apply (c : Dev nD) (t : Fin cfg0.N) (r : Fin 192) (n : Fin 3584) : zq V c t (ix2 r n) = zT V c t (ix2 ⟨0 + r.val, by omega⟩ n) := by
  unfold zq
  exact ld_rows (zT V c t) 0 (by omega) inb_S576x3584_S192x3584_0_0 r n

/-- The keys' rows at an index. -/
theorem zk_apply (c : Dev nD) (t : Fin cfg0.N) (r : Fin 192) (n : Fin 3584) : zk V c t (ix2 r n) = zT V c t (ix2 ⟨192 + r.val, by omega⟩ n) := by
  unfold zk
  exact ld_rows (zT V c t) 192 (by omega) inb_S576x3584_S192x3584_192_0 r n

/-- The values' rows at an index. -/
theorem zv_apply (c : Dev nD) (t : Fin cfg0.N) (r : Fin 192) (n : Fin 3584) : zv V c t (ix2 r n) = zT V c t (ix2 ⟨384 + r.val, by omega⟩ n) := by
  unfold zv
  exact ld_rows (zT V c t) 384 (by omega) inb_S576x3584_S192x3584_384_0 r n

/-- Rows of the scratch read back after a store of all of it. -/
theorem scratch_rows {sg : RefSig} {κ : Kind} {sp : Space} (v : View sg κ sp S576x3584 .f32) (R : Rect S576x3584)
    (zb : Vec Ideal S576x3584 .f32) (L : List (View.Piece (Elt Ideal) S576x3584 .f32)) :
    v.readCov ((⟨Rect.unit ![0, 0] ![576, 3584] inb_S576x3584_S576x3584_0_0, zb⟩ : View.Piece (Elt Ideal) S576x3584 .f32) :: L) R.toLoadRect
      = View.ld zb R := by
  rw [View.readCov_eq_canon']
  rw [View.canon_cons_unit_lit' (S := S576x3584) (off := ![0, 0]) inb_S576x3584_S576x3584_0_0 zb L (by decide)]

set_option backward.isDefEq.respectTransparency.types false in
/-- Queries and keys at the first point: the scratch's first 384 rows. -/
theorem zqk_A (c : Dev nD) (t : Fin cfg0.N) (h0 : t.val % 14 = 0) (h1 : ¬1 ≤ t.val) :
    (outsAt0 V c t.val t.isLt).1 = View.ld (zT V c t) (Rect.unit ![0, 0] ![384, 3584] inb_S576x3584_S384x3584_0_0) := by
  rw [outsAt0_A V c t h0 h1]
  frame_out
  exact scratch_rows _ _ (zT V c t) _

set_option backward.isDefEq.respectTransparency.types false in
/-- Queries and keys at a later point. -/
theorem zqk_B (c : Dev nD) (t : Fin cfg0.N) (h0 : ¬t.val % 14 = 0) (h1 : 1 ≤ t.val) :
    (outsAt0 V c t.val t.isLt).1 = View.ld (zT V c t) (Rect.unit ![0, 0] ![384, 3584] inb_S576x3584_S384x3584_0_0) := by
  rw [outsAt0_B V c t h0 h1]
  frame_out
  exact scratch_rows _ _ (zT V c t) _

set_option backward.isDefEq.respectTransparency.types false in
/-- Values at the first point: the scratch's last 192 rows. -/
theorem vb_A (c : Dev nD) (t : Fin cfg0.N) (h0 : t.val % 14 = 0) (h1 : ¬1 ≤ t.val) :
    (outsAt0 V c t.val t.isLt).2.1 = k0_pay2 (F := Ideal) (zv V c t) := by
  rw [outsAt0_A V c t h0 h1]
  frame_out
  exact congrArg (k0_pay2 (F := Ideal)) (scratch_rows _ _ (zT V c t) _)

set_option backward.isDefEq.respectTransparency.types false in
/-- Values at a later point. -/
theorem vb_B (c : Dev nD) (t : Fin cfg0.N) (h0 : ¬t.val % 14 = 0) (h1 : 1 ≤ t.val) :
    (outsAt0 V c t.val t.isLt).2.1 = k0_pay2 (F := Ideal) (zv V c t) := by
  rw [outsAt0_B V c t h0 h1]
  frame_out
  exact congrArg (k0_pay2 (F := Ideal)) (scratch_rows _ _ (zT V c t) _)

set_option backward.isDefEq.respectTransparency.types false in
/-- The queries' squares after the first point. -/
theorem qsq_A (c : Dev nD) (t : Fin cfg0.N) (h0 : t.val % 14 = 0) (h1 : ¬1 ≤ t.val) :
    (outsAt0 V c t.val t.isLt).2.2.1 = k0_pay3 (F := Ideal) (zq V c t) := by
  rw [outsAt0_A V c t h0 h1]
  frame_out
  exact congrArg (k0_pay3 (F := Ideal)) (scratch_rows _ _ (zT V c t) _)

set_option backward.isDefEq.respectTransparency.types false in
/-- The queries' squares after a later point: what the point before left, and this block's. -/
theorem qsq_B (c : Dev nD) (t : Fin cfg0.N) (h0 : ¬t.val % 14 = 0) (h1 : 1 ≤ t.val) :
    (outsAt0 V c t.val t.isLt).2.2.1 = k0_pay5 (F := Ideal) (zq V c t)
      (outsAt0 V c (t.val - 1) (Nat.lt_of_le_of_lt (Nat.sub_le _ _) t.isLt)).2.2.1 := by
  rw [outsAt0_B V c t h0 h1]
  frame_out
  exact congrArg (fun q => k0_pay5 (F := Ideal) q _) (scratch_rows _ _ (zT V c t) _)

set_option backward.isDefEq.respectTransparency.types false in
/-- The keys' squares after the first point. -/
theorem ksq_A (c : Dev nD) (t : Fin cfg0.N) (h0 : t.val % 14 = 0) (h1 : ¬1 ≤ t.val) :
    (outsAt0 V c t.val t.isLt).2.2.2 = k0_pay4 (F := Ideal) (zk V c t) := by
  rw [outsAt0_A V c t h0 h1]
  frame_out
  exact congrArg (k0_pay4 (F := Ideal)) (scratch_rows _ _ (zT V c t) _)

set_option backward.isDefEq.respectTransparency.types false in
/-- The keys' squares after a later point. -/
theorem ksq_B (c : Dev nD) (t : Fin cfg0.N) (h0 : ¬t.val % 14 = 0) (h1 : 1 ≤ t.val) :
    (outsAt0 V c t.val t.isLt).2.2.2 = k0_pay6 (F := Ideal) (zk V c t)
      (outsAt0 V c (t.val - 1) (Nat.lt_of_le_of_lt (Nat.sub_le _ _) t.isLt)).2.2.2 := by
  rw [outsAt0_B V c t h0 h1]
  frame_out
  exact congrArg (fun q => k0_pay6 (F := Ideal) q _) (scratch_rows _ _ (zT V c t) _)

end Cert.KernelIdeal.Gen
-- ==== Proof.Val.Arr0.lean ====
/- The first call's arrays: the convolved image and its channels' sums of squares. -/
module

public import proofs.«01_k».proof.Proof.Val.Out0

@[expose] public section

set_option backward.proofsInPublic true
set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The blocks of the first call at point `t`. -/
theorem idx0 : ∀ t : Fin cfg0.N, win0_0.index t = ![0, 2 * t.val - 1, 0] ∧ win0_1.index t = ![0, t.val] ∧ win0_2.index t = ![0, min (2 * t.val + 2) 27, 0]
    ∧ win0_3.index t = ![0, 0] ∧ win0_4.index t = ![0, 0] ∧ win0_5.index t = ![0, t.val] ∧ win0_6.index t = ![0, t.val]
    ∧ win0_7.index t = ![0, 0] ∧ win0_8.index t = ![0, 0] ∧ (grid0.coords t 0).val = t.val :=
  (by decide +kernel : ∀ t : Fin grid0.N, _)

/-- One row of a block of eight. -/
theorem ld_row (q : ℕ) (hq : q < 8) (X : Vec Ideal S192x8x224 .f32) (inb) (k : Fin 192) (w : Fin 224) :
    View.ld (Val := Elt Ideal) (e' := .f32) X (Rect.unit ![0, q, 0] ![192, 1, 224] inb) (ix3 k 0 w) = X (ix3 k ⟨q, hq⟩ w) := by
  refine View.ld_unit_apply_of _ _ _ _ _ _ fun a => ?_
  fin_cases a
  · exact (Nat.zero_add _).symm
  · rfl
  · exact (Nat.zero_add _).symm

/-- One column of the taps. -/
theorem ld_col (q : ℕ) (hq : q < 9) (X : Vec Ideal S576x9 .f32) (inb) (o : Fin 576) :
    View.ld (Val := Elt Ideal) (e' := .f32) X (Rect.unit ![0, q] ![576, 1] inb) (ix2 o 0) = X (ix2 o ⟨q, hq⟩) := by
  refine View.ld_unit_apply_of _ _ _ _ _ _ fun a => ?_
  fin_cases a
  · exact (Nat.zero_add _).symm
  · rfl

/-- The row above the block. -/
theorem xt_read (c : Dev nD) (t : Fin cfg0.N) (k : Fin 192) (w : Fin 224) (h : 1 ≤ t.val) (h' : 16 * t.val - 1 < 224) :
    View.ld (iblk0 V c 0 t) (Rect.unit ![0, 7, 0] ![192, 1, 224] inb_S192x8x224_S192x1x224_0_7_0) (ix3 k 0 w)
      = (V c main_call0_v1 : Vec Ideal S192x224x224 .f32) (ix3 k ⟨16 * t.val - 1, h'⟩ w) := by
  refine (ld_row 7 (by omega) (iblk0 V c 0 t) _ k w).trans ?_
  blk_ext [iblk0, idx0 t]

/-- The row below the block. -/
theorem xb_read (c : Dev nD) (t : Fin cfg0.N) (k : Fin 192) (w : Fin 224) (h' : 16 * t.val + 16 < 224) :
    View.ld (iblk0 V c 2 t) (Rect.unit ![0, 0, 0] ![192, 1, 224] inb_S192x8x224_S192x1x224_0_0_0) (ix3 k 0 w)
      = (V c main_call0_v1 : Vec Ideal S192x224x224 .f32) (ix3 k ⟨16 * t.val + 16, h'⟩ w) := by
  refine (ld_row 0 (by omega) (iblk0 V c 2 t) _ k w).trans ?_
  blk_ext [iblk0, idx0 t]

/-- The block's own pixels. -/
theorem xf_read (c : Dev nD) (t : Fin cfg0.N) (k : Fin 192) (n : Fin 3584) (h' : 3584 * t.val + n.val < 50176) :
    (iblk0 V c 1 t : Vec Ideal S192x3584 .f32) (ix2 k n) = (V c main_call0_v0 : Vec Ideal S192x50176 .f32) (ix2 k ⟨3584 * t.val + n.val, h'⟩) := by
  blk_ext [iblk0, idx0 t]

/-- The projection's weights, whole at every point. -/
theorem w1_read (c : Dev nD) (t : Fin cfg0.N) (o : Fin 576) (k : Fin 192) :
    (iblk0 V c 3 t : Vec Ideal S576x192 .f32) (ix2 o k) = (V c main_call0_v2 : Vec Ideal S576x192 .f32) (ix2 o k) := by
  blk_ext [iblk0, idx0 t]

/-- A tap's weights: one column of the array of taps. -/
theorem wd_read (c : Dev nD) (t : Fin cfg0.N) (q : ℕ) (hq : q < 9) (inb) (o : Fin 576) :
    View.ld (Val := Elt Ideal) (e' := .f32) (S := S576x9) (iblk0 V c 4 t) (Rect.unit ![0, q] ![576, 1] inb) (ix2 o 0) = (V c main_call0_v3 : Vec Ideal S576x9 .f32) (ix2 o ⟨q, hq⟩) := by
  refine (ld_col q hq (iblk0 V c 4 t) _ o).trans ?_
  blk_ext [iblk0, idx0 t]

section Block
variable (W : Fin 576 → Fin 192 → EReal) (X : Fin 192 → Fin 224 → Fin 224 → EReal) (D : Fin 576 → Fin 9 → EReal) (c : Dev nD)
  (hw : ∀ o k, (V c main_call0_v2 : Vec Ideal S576x192 .f32) (ix2 o k) = W o k)
  (hx : ∀ k h w, (V c main_call0_v1 : Vec Ideal S192x224x224 .f32) (ix3 k h w) = X k h w)
  (hf : ∀ (k : Fin 192) (n : Fin 50176), (V c main_call0_v0 : Vec Ideal S192x50176 .f32) (ix2 k n) = X k ⟨n.val / 224, by omega⟩ ⟨n.val % 224, by omega⟩)
  (hd : ∀ o q, (V c main_call0_v3 : Vec Ideal S576x9 .f32) (ix2 o q) = D o q)
include hw hx hf hd

/-- The scratch at point `t`: the convolved image's pixels of that block. -/
theorem zT_apply (t : Fin cfg0.N) (o : Fin 576) (n : Fin 3584) : zT V c t (ix2 o n) = Spec.z W X D o (3584 * t.val + n.val) := by
  have hn := n.isLt
  have ht : t.val < 14 := N_0 ▸ t.isLt
  have hz : Spec.z W X D o (3584 * t.val + n.val) = Spec.conv (Spec.yp W X o) (D o) (16 * t.val + n.val / 224) (n.val % 224) := by
    unfold Spec.z
    congr 1 <;> omega
  rw [hz]
  unfold zT
  exact zblk_taps (grid0.coords t) _ _ (iblk0 V c 1 t) (iblk0 V c 3 t) _ _ _ _ _ _ _ _ _ o n (16 * t.val) (Spec.yp W X o) (D o)
    (ext_eq t.val (grid0.coords t) (idx0 t).2.2.2.2.2.2.2.2.2 _ _ (iblk0 V c 1 t) (iblk0 V c 3 t) W X
      (fun o k => (w1_read V c t o k).trans (hw o k))
      (fun k w h h' => (xt_read V c t k w h h').trans (hx _ _ _))
      (fun k w h' => (xb_read V c t k w h').trans (hx _ _ _))
      (fun k m h' => (xf_read V c t k m (by omega)).trans ((hf _ _).trans (by congr 1 <;> exact Fin.ext (by dsimp only; omega)))) o)
    (Spec.yp_left W X o) (Spec.yp_right W X o)
    ((wd_read V c t 0 (by omega) _ o).trans (hd _ _)) ((wd_read V c t 1 (by omega) _ o).trans (hd _ _))
    ((wd_read V c t 2 (by omega) _ o).trans (hd _ _)) ((wd_read V c t 3 (by omega) _ o).trans (hd _ _))
    ((wd_read V c t 4 (by omega) _ o).trans (hd _ _)) ((wd_read V c t 5 (by omega) _ o).trans (hd _ _))
    ((wd_read V c t 6 (by omega) _ o).trans (hd _ _)) ((wd_read V c t 7 (by omega) _ o).trans (hd _ _))
    ((wd_read V c t 8 (by omega) _ o).trans (hd _ _))

/-- Queries and keys at a point, whichever its case. -/
theorem zqk_at (t : Fin cfg0.N) (o : Fin 384) (n : Fin 3584) :
    (outsAt0 V c t.val t.isLt).1 (ix2 o n) = Spec.z W X D ⟨o.val, by omega⟩ (3584 * t.val + n.val) := by
  have ht : t.val < 14 := N_0 ▸ t.isLt
  have h : (outsAt0 V c t.val t.isLt).1 = View.ld (zT V c t) (Rect.unit ![0, 0] ![384, 3584] inb_S576x3584_S384x3584_0_0) := by
    by_cases h0 : t.val % 14 = 0
    · exact zqk_A V c t h0 (by omega)
    · exact zqk_B V c t h0 (by omega)
  rw [h]
  refine Eq.trans ?_ (zT_apply V W X D c hw hx hf hd t _ n)
  refine View.ld_unit_apply_of _ _ _ _ _ _ fun a => ?_
  fin_cases a <;> exact (Nat.zero_add _).symm

/-- Values at a point. -/
theorem vb_at (t : Fin cfg0.N) (o : Fin 192) (n : Fin 3584) :
    (outsAt0 V c t.val t.isLt).2.1 (ix2 o n) = Spec.z W X D ⟨384 + o.val, by omega⟩ (3584 * t.val + n.val) := by
  have ht : t.val < 14 := N_0 ▸ t.isLt
  have h : (outsAt0 V c t.val t.isLt).2.1 = k0_pay2 (F := Ideal) (zv V c t) := by
    by_cases h0 : t.val % 14 = 0
    · exact vb_A V c t h0 (by omega)
    · exact vb_B V c t h0 (by omega)
  rw [h, val_apply, zv_apply, zT_apply V W X D c hw hx hf hd]

/-- Queries and keys after the call. -/
theorem zqk_arr : (dat0 V c).arrAt 5 cfg0.N = (fun j => Spec.z W X D ⟨(j 0).val, lt_of_lt_of_le (j 0).isLt (by decide)⟩ (j 1).val : Vec Ideal S384x50176 .f32) := by
  refine (dat0 V c).arrAt_eq_of_covers 5 _ (by decide +kernel) fun t hf' y => ?_
  blk_simp [idx0 t]
  rw [after0_5]
  obtain ⟨o, n, rfl⟩ : ∃ (o : Fin 384) (n : Fin 3584), y = ix2 o n := ⟨y 0, y 1, by funext a; fin_cases a <;> rfl⟩
  rw [zqk_at V W X D c hw hx hf hd, Nat.mul_comm 3584]
  rfl

/-- Values after the call. -/
theorem vb_arr : (dat0 V c).arrAt 6 cfg0.N = (fun j => Spec.z W X D ⟨384 + (j 0).val, by have := (j 0).isLt; change _ < 192 at this; omega⟩ (j 1).val : Vec Ideal S192x50176 .bf16) := by
  refine (dat0 V c).arrAt_eq_of_covers 6 _ (by decide +kernel) fun t hf' y => ?_
  blk_simp [idx0 t]
  rw [after0_6]
  obtain ⟨o, n, rfl⟩ : ∃ (o : Fin 192) (n : Fin 3584), y = ix2 o n := ⟨y 0, y 1, by funext a; fin_cases a <;> rfl⟩
  rw [vb_at V W X D c hw hx hf hd, Nat.mul_comm 3584]
  rfl

/-- The queries' sums of squares at the last point: all pixels' squares. -/
theorem qsq_last (t : Fin cfg0.N) (ht : t.val + 1 = cfg0.N) (r : Fin 192) :
    ((outsAt0 V c t.val t.isLt).2.2.1 (ix2 r 0) : EReal) = Spec.sq (Spec.z W X D) ⟨r.val, by omega⟩ := by
  have hN : ∀ t : Fin cfg0.N, t.val < 14 := fun t => N_0 ▸ t.isLt
  have h := Pipeline.eq_sum_fin_of_reset_step_apply_last (fun n h (r : Fin 192) => ((outsAt0 V c n h).2.2.1 (ix2 r 0) : EReal)) 14
    (fun _ => 0) (fun p r => k0_pay3 (F := Ideal) (zq V c p) (ix2 r 0))
    (fun t h r => by
      show ((outsAt0 V c t.val t.isLt).2.2.1 (ix2 r 0) : EReal) = _
      rw [qsq_A V c t h (by have := hN t; omega), zero_add])
    (fun t h r => by
      show ((outsAt0 V c t.val t.isLt).2.2.1 (ix2 r 0) : EReal) = _
      rw [qsq_B V c t h (by omega), sq_step])
    (le_of_eq N_0) t ht r
  refine h.trans ((zero_add _).trans ?_)
  unfold Spec.sq
  refine (Finset.sum_congr rfl fun p _ => sq_apply (zq V c p) r).trans ?_
  refine Fin.sum_mul_add_congr (fun p k hl => ?_) (by rw [show cfg0.N = 14 from N_0])
  rw [zq_apply, zT_apply V W X D c hw hx hf hd, Nat.mul_comm 3584]
  simp only [Nat.zero_add]

/-- The queries' sums of squares after the call. -/
theorem qsq_arr : (dat0 V c).arrAt 7 cfg0.N = (fun j => Spec.sq (Spec.z W X D) ⟨(j 0).val, lt_of_lt_of_le (j 0).isLt (by decide)⟩ : Vec Ideal S192x1 .f32) := by
  refine (dat0 V c).arrAt_eq_of_after_last 7 t0_13 (by decide +kernel) _ fun j => ?_
  blk_simp
  rw [after0_7]
  obtain ⟨r, k, rfl⟩ : ∃ (r : Fin 192) (k : Fin 1), j = ix2 r k := ⟨j 0, j 1, by funext a; fin_cases a <;> rfl⟩
  obtain rfl : k = 0 := Subsingleton.elim _ _
  exact qsq_last V W X D c hw hx hf hd t0_13 rfl r

/-- The keys' sums of squares at the last point: all pixels' squares. -/
theorem ksq_last (t : Fin cfg0.N) (ht : t.val + 1 = cfg0.N) (r : Fin 192) :
    ((outsAt0 V c t.val t.isLt).2.2.2 (ix2 r 0) : EReal) = Spec.sq (Spec.z W X D) ⟨192 + r.val, by omega⟩ := by
  have hN : ∀ t : Fin cfg0.N, t.val < 14 := fun t => N_0 ▸ t.isLt
  have h := Pipeline.eq_sum_fin_of_reset_step_apply_last (fun n h (r : Fin 192) => ((outsAt0 V c n h).2.2.2 (ix2 r 0) : EReal)) 14
    (fun _ => 0) (fun p r => k0_pay4 (F := Ideal) (zk V c p) (ix2 r 0))
    (fun t h r => by
      show ((outsAt0 V c t.val t.isLt).2.2.2 (ix2 r 0) : EReal) = _
      rw [ksq_A V c t h (by have := hN t; omega), zero_add])
    (fun t h r => by
      show ((outsAt0 V c t.val t.isLt).2.2.2 (ix2 r 0) : EReal) = _
      rw [ksq_B V c t h (by omega), sq_step'])
    (le_of_eq N_0) t ht r
  refine h.trans ((zero_add _).trans ?_)
  unfold Spec.sq
  refine (Finset.sum_congr rfl fun p _ => sq_apply' (zk V c p) r).trans ?_
  refine Fin.sum_mul_add_congr (fun p k hl => ?_) (by rw [show cfg0.N = 14 from N_0])
  rw [zk_apply, zT_apply V W X D c hw hx hf hd, Nat.mul_comm 3584]

/-- The keys' sums of squares after the call. -/
theorem ksq_arr : (dat0 V c).arrAt 8 cfg0.N = (fun j => Spec.sq (Spec.z W X D) ⟨192 + (j 0).val, by have := (j 0).isLt; change _ < 192 at this; omega⟩ : Vec Ideal S192x1 .f32) := by
  refine (dat0 V c).arrAt_eq_of_after_last 8 t0_13 (by decide +kernel) _ fun j => ?_
  blk_simp
  rw [after0_8]
  obtain ⟨r, k, rfl⟩ : ∃ (r : Fin 192) (k : Fin 1), j = ix2 r k := ⟨j 0, j 1, by funext a; fin_cases a <;> rfl⟩
  obtain rfl : k = 0 := Subsingleton.elim _ _
  exact ksq_last V W X D c hw hx hf hd t0_13 rfl r

end Block

end Cert.KernelIdeal.Gen
-- ==== Proof.Val.Out1.lean ====
/- The second call's output at a grid point: a running sum of products of unit-length channels. -/
module

public import proofs.«01_k».proof.Proof.RunI.Region1
public import proofs.«01_k».proof.Proof.Val.Mat
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

set_option backward.isDefEq.respectTransparency.types false in
/-- The products after the first point. -/
theorem gram_A (c : Dev nD) (t : Fin cfg1.N) (h0 : t.val % 14 = 0) (h1 : ¬1 ≤ t.val) :
    outsAt1 V c t.val t.isLt = k1_pay1 (F := Ideal) (iblk1 V c 1 t) (iblk1 V c 2 t)
      (View.ld (iblk1 V c 0 t) (Rect.unit ![0, 0] ![192, 3584] inb_S384x3584_S192x3584_0_0))
      (View.ld (iblk1 V c 0 t) (Rect.unit ![192, 0] ![192, 3584] inb_S384x3584_S192x3584_192_0)) := by
  rw [outsAt1_A V c t h0 h1]
  frame_out
  rfl

set_option backward.isDefEq.respectTransparency.types false in
/-- The products after a later point: what the point before left, and this block's. -/
theorem gram_B (c : Dev nD) (t : Fin cfg1.N) (h0 : ¬t.val % 14 = 0) (h1 : 1 ≤ t.val) :
    outsAt1 V c t.val t.isLt = k1_pay2 (F := Ideal) (iblk1 V c 1 t) (iblk1 V c 2 t)
      (View.ld (iblk1 V c 0 t) (Rect.unit ![0, 0] ![192, 3584] inb_S384x3584_S192x3584_0_0))
      (View.ld (iblk1 V c 0 t) (Rect.unit ![192, 0] ![192, 3584] inb_S384x3584_S192x3584_192_0))
      (outsAt1 V c (t.val - 1) (Nat.lt_of_le_of_lt (Nat.sub_le _ _) t.isLt)) := by
  rw [outsAt1_B V c t h0 h1]
  frame_out
  rfl

end Cert.KernelIdeal.Gen
-- ==== Proof.Val.Arr1.lean ====
/- The second call's array: the products of unit-length channels, over all pixels. -/
module

public import proofs.«01_k».proof.Proof.Val.Out1

@[expose] public section

set_option backward.proofsInPublic true
set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The blocks of the second call at point `t`. -/
theorem idx1 : ∀ t : Fin cfg1.N, win1_0.index t = ![0, t.val] ∧ win1_1.index t = ![0, 0] ∧ win1_2.index t = ![0, 0] ∧ win1_3.index t = ![0, 0] :=
  (by decide +kernel : ∀ t : Fin grid1.N, _)

/-- Rows of a block of 384 rows. -/
theorem ld_qk (X : Vec Ideal S384x3584 .f32) (a : ℕ) (ha : a + 192 ≤ 384) (inb) (r : Fin 192) (n : Fin 3584) :
    View.ld (Val := Elt Ideal) (e' := .f32) X (Rect.unit ![a, 0] ![192, 3584] inb) (ix2 r n) = X (ix2 ⟨a + r.val, by omega⟩ n) := by
  refine View.ld_unit_apply_of X ![a, 0] ![192, 3584] inb (ix2 r n) (ix2 ⟨a + r.val, by omega⟩ n) fun k => ?_
  fin_cases k
  · rfl
  · exact (Nat.zero_add _).symm

/-- The block's pixels. -/
theorem qk_read (c : Dev nD) (t : Fin cfg1.N) (o : Fin 384) (n : Fin 3584) (h' : t.val * 3584 + n.val < 50176) :
    (iblk1 V c 0 t : Vec Ideal S384x3584 .f32) (ix2 o n) = (V c main_call0_v7_0 : Vec Ideal S384x50176 .f32) (ix2 o ⟨t.val * 3584 + n.val, h'⟩) := by
  blk_ext [iblk1, idx1 t]

/-- The queries' sums of squares, whole at every point. -/
theorem qs_read (c : Dev nD) (t : Fin cfg1.N) (r : Fin 192) :
    (iblk1 V c 1 t : Vec Ideal S192x1 .f32) (ix2 r 0) = (V c main_call0_v7_2 : Vec Ideal S192x1 .f32) (ix2 r 0) := by
  blk_ext [iblk1, idx1 t]

/-- The keys' sums of squares. -/
theorem ks_read (c : Dev nD) (t : Fin cfg1.N) (r : Fin 192) :
    (iblk1 V c 2 t : Vec Ideal S192x1 .f32) (ix2 r 0) = (V c main_call0_v7_3 : Vec Ideal S192x1 .f32) (ix2 r 0) := by
  blk_ext [iblk1, idx1 t]

section Block
variable (Z : Fin 576 → ℕ → EReal) (c : Dev nD)
  (hz : ∀ (o : Fin 384) (n : Fin 50176), (V c main_call0_v7_0 : Vec Ideal S384x50176 .f32) (ix2 o n) = Z ⟨o.val, by omega⟩ n.val)
  (hq : ∀ r : Fin 192, (V c main_call0_v7_2 : Vec Ideal S192x1 .f32) (ix2 r 0) = Spec.sq Z ⟨r.val, by omega⟩)
  (hk : ∀ r : Fin 192, (V c main_call0_v7_3 : Vec Ideal S192x1 .f32) (ix2 r 0) = Spec.sq Z ⟨192 + r.val, by omega⟩)

/-- One block's part of the products. -/
abbrev part1 (t : Fin cfg1.N) : Vec Ideal S192x192 .f32 := k1_pay1 (F := Ideal) (iblk1 V c 1 t) (iblk1 V c 2 t)
  (View.ld (iblk1 V c 0 t) (Rect.unit ![0, 0] ![192, 3584] inb_S384x3584_S192x3584_0_0))
  (View.ld (iblk1 V c 0 t) (Rect.unit ![192, 0] ![192, 3584] inb_S384x3584_S192x3584_192_0))

include hz hq hk

/-- The products at the last point: over all pixels. -/
theorem gram_last (t : Fin cfg1.N) (ht : t.val + 1 = cfg1.N) (r s : Fin 192) :
    (outsAt1 V c t.val t.isLt (ix2 r s) : EReal) = Spec.gram Z ⟨r.val, by omega⟩ ⟨192 + s.val, by omega⟩ := by
  have hN : ∀ t : Fin cfg1.N, t.val < 14 := fun t => N_1 ▸ t.isLt
  have h := Pipeline.eq_sum_fin_of_reset_step_apply_last (fun n h (q : Fin 192 × Fin 192) => (outsAt1 V c n h (ix2 q.1 q.2) : EReal)) 14
    (fun _ => 0) (fun p q => part1 V c p (ix2 q.1 q.2))
    (fun t h q => by
      show (outsAt1 V c t.val t.isLt (ix2 q.1 q.2) : EReal) = _
      rw [gram_A V c t h (by have := hN t; omega), zero_add])
    (fun t h q => by
      show (outsAt1 V c t.val t.isLt (ix2 q.1 q.2) : EReal) = _
      rw [gram_B V c t h (by omega), gram_step])
    (le_of_eq N_1) t ht (r, s)
  refine h.trans ((zero_add _).trans ?_)
  unfold Spec.gram
  refine (Finset.sum_congr rfl fun p _ => gram_apply (iblk1 V c 1 p) (iblk1 V c 2 p) _ _ r s).trans ?_
  refine Fin.sum_mul_add_congr (fun p k hl => ?_) (by rw [show cfg1.N = 14 from N_1])
  rw [qs_read, ks_read, hq, hk, ld_qk _ 0 (by omega), ld_qk _ 192 (by omega), qk_read V c p _ k hl, qk_read V c p _ k hl, hz, hz]
  simp only [Nat.zero_add]

/-- The products after the call. -/
theorem gram_arr : (dat1 V c).arrAt 3 cfg1.N
    = (fun j => Spec.gram Z ⟨(j 0).val, lt_of_lt_of_le (j 0).isLt (by decide)⟩ ⟨192 + (j 1).val, by have := (j 1).isLt; change _ < 192 at this; omega⟩ : Vec Ideal S192x192 .f32) := by
  refine (dat1 V c).arrAt_eq_of_after_last 3 t1_13 (by decide +kernel) _ fun j => ?_
  blk_simp
  rw [after1_3]
  obtain ⟨r, k, rfl⟩ : ∃ (r : Fin 192) (k : Fin 192), j = ix2 r k := ⟨j 0, j 1, by funext a; fin_cases a <;> rfl⟩
  exact gram_last V Z c hz hq hk t1_13 rfl r k

end Block

end Cert.KernelIdeal.Gen
-- ==== Proof.Val.Soft.lean ====
/- The third call's block, computed: one head's softmax over each row's sixteen largest entries. -/
module

public import proofs.«01_k».proof.Proof.Gen.KernelIdeal.Skeleton
public import Idealize.ShloMosaic.Lib.Pointwise
public import proofs.«01_k».proof.Proof.Val.Spec

@[expose] public section

set_option maxRecDepth 16384

noncomputable section

namespace Cert.KernelIdeal.Gen

open Idealize.ShloMosaic Idealize.ShloMosaic.TcCoe Idealize.ShloMosaic.Tactic

/-- The word of one comparison as a number: `1` when the entry comes before, `0` when not. -/
theorem before_word (p q : Prop) [Decidable p] [Decidable q] (i j : Fin 32) :
    FloatOps.sitofp (F := Ideal) .f32 (BitVec.setWidth 32 (IntOp.ori (BitVec.ofBool (decide p))
      (IntOp.andi (BitVec.ofBool (decide q)) (IntOp.cmpi .slt (BitVec.ofNat 32 i.val) (BitVec.ofNat 32 j.val)))))
      = if p ∨ (q ∧ i < j) then (1 : EReal) else 0 := by
  have hc : ∀ i j : Fin 32, IntOp.cmpi .slt (BitVec.ofNat 32 i.val) (BitVec.ofNat 32 j.val) = if i < j then 1#1 else 0#1 := by decide
  rw [hc]
  show ((_ : ℝ) : EReal) = _
  by_cases hp : p <;> by_cases hq : q <;> by_cases hl : i < j <;>
    simp [hp, hq, hl, IntOp.ori, IntOp.andi]

/-- How many entries come before, compared with sixteen. -/
theorem count_lt (a : Fin 32 → EReal) (j : Fin 32) :
    (∑ i : Fin 32, FloatOps.sitofp (F := Ideal) .f32 (BitVec.setWidth 32 (IntOp.ori (BitVec.ofBool (decide (a j < a i)))
      (IntOp.andi (BitVec.ofBool (decide (a i = a j))) (IntOp.cmpi .slt (BitVec.ofNat 32 i.val) (BitVec.ofNat 32 j.val)))))
      : EReal) < Ideal.ofBits .f32 0x41800000#32 ↔ Spec.kept a j := by
  have h16 : Ideal.ofBits .f32 0x41800000#32 = ((16 : ℕ) : EReal) := by
    simp [Ideal.ofBits, Ideal.ieee, -EReal.coe_mul]
    norm_num
    rfl
  simp only [before_word]
  rw [h16, Finset.sum_boole, Nat.cast_lt]
  rfl

open Classical in
/-- The softmax written with a test at each entry: the entries that fail it count as minus infinity for the maximum and as `0` after. -/
theorem soft_form (a : Fin 32 → EReal) (c : Fin 32 → Prop) [DecidablePred c] (b m : EReal) (hc : ∀ x, c x ↔ Spec.kept a x)
    (hb : b = ⊥) (hm : m = ⊥) (j : Fin 32) :
    Ideal.div (if c j then Ideal.exp (a j - Finset.univ.fold max b fun x => if c x then a x else m) else 0)
      (∑ x, if c x then Ideal.exp (a x - Finset.univ.fold max b fun x => if c x then a x else m) else 0) = Spec.soft a j := by
  subst hb hm
  have ht : (Finset.univ.fold max ⊥ fun x => if c x then a x else ⊥) = Spec.top a := by
    unfold Spec.top
    congr 1
    funext x
    unfold Spec.masked
    simp only [hc]
  have he : ∀ x, (if c x then Ideal.exp (a x - Spec.top a) else 0) = Ideal.exp (Spec.masked a x - Spec.top a) := by
    intro x
    unfold Spec.masked
    by_cases h : c x
    · rw [if_pos h, if_pos ((hc x).mp h)]
    · rw [if_neg h, if_neg (fun k => h ((hc x).mpr k)), EReal.bot_sub, Ideal.exp_bot]
  simp only [ht, he]
  rfl

/-- The third call's payload for one head: each row's softmax over its sixteen largest scaled entries. -/
theorem head_apply (v : Vec Ideal S32x32 .f32) (t : Vec Ideal S1x1 .f32) (r j : Fin 32) :
    k2_pay1 (F := Ideal) v t (ix2 r j) = Spec.soft (fun d => v (ix2 r d) * t (ix2 0 0)) j := by
  pointwise [k2_pay1]
  have hb : Ideal.ofBits .f32 0xFF800000#32 = ⊥ := by simp [Ideal.ofBits, Ideal.ieee]
  exact soft_form (fun d => v (ix2 r d) * t (ix2 0 0)) _ _ _ (count_lt _) hb rfl j

end Cert.KernelIdeal.Gen
-- ==== Proof.Val.Out2.lean ====
/- The third call's output: each head's softmax, in the head's 32 rows. -/
module

public import proofs.«01_k».proof.Proof.RunI.Region2
public import proofs.«01_k».proof.Proof.Val.Soft
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

section Heads
variable {F : FTy → Type} [FloatOps F] [Named F]

/-- The second head's payload is the first's, over its own loads. -/
theorem head1 (x0 : Vec F S192x192 .f32) (x1 : Vec F S6x1 .f32) (v : Vec F S32x32 .f32) (t : Vec F S1x1 .f32) :
    k2_pay4 (k2_pay20 x0 x1) (k2_pay21 x0 x1) (k2_pay2 v) (k2_pay3 t) = k2_pay1 v t := rfl

/-- The third head's payload. -/
theorem head2 (x0 : Vec F S192x192 .f32) (x1 : Vec F S6x1 .f32) (v : Vec F S32x32 .f32) (t : Vec F S1x1 .f32) :
    k2_pay10 (k2_pay20 x0 x1) (k2_pay21 x0 x1) (k2_pay5 v t) (k2_pay8 v t) (k2_pay9 v t) = k2_pay1 v t := rfl

/-- The fourth head's payload. -/
theorem head3 (x0 : Vec F S192x192 .f32) (x1 : Vec F S6x1 .f32) (v : Vec F S32x32 .f32) (t : Vec F S1x1 .f32) :
    k2_pay14 (k2_pay11 v t) (k2_pay12 (k2_pay20 x0 x1) (k2_pay21 x0 x1) v t) k2_pay13 = k2_pay1 v t := rfl

/-- The fifth head's payload. -/
theorem head4 (x0 : Vec F S192x192 .f32) (x1 : Vec F S6x1 .f32) (v : Vec F S32x32 .f32) (t : Vec F S1x1 .f32) :
    k2_pay18 (k2_pay16 (k2_pay20 x0 x1) (k2_pay21 x0 x1) v t) (k2_pay17 (k2_pay20 x0 x1) (k2_pay21 x0 x1) v t) = k2_pay1 v t := rfl

/-- The sixth head's payload. -/
theorem head5 (x0 : Vec F S192x192 .f32) (x1 : Vec F S6x1 .f32) (v : Vec F S32x32 .f32) (t : Vec F S1x1 .f32) :
    k2_pay19 (k2_pay20 x0 x1) (k2_pay21 x0 x1) v t = k2_pay1 v t := rfl

end Heads

/-- The attention weights over the products `x0` and the factors `x1`: the softmax of each row's part in its own head. -/
def wts (x0 : Vec Ideal S192x192 .f32) (x1 : Vec Ideal S6x1 .f32) (r : Fin 192) : Fin 32 → EReal :=
  Spec.soft fun d => x0 (ix2 r ⟨r.val / 32 * 32 + d.val, by omega⟩) * x1 (ix2 ⟨r.val / 32, by omega⟩ 0)

/-- Head `h`'s payload, where it holds a row of the output, has that row's weights. -/
theorem head_tile (x0 : Vec Ideal S192x192 .f32) (x1 : Vec Ideal S6x1 .f32) (h : ℕ) (hh : h < 6) (a b : ℕ) (ha : a = 32 * h) (hb : b = h)
    (inb1 inb2) (r : Fin 192) (j : Fin 32) :
    View.TileAt (Val := Elt Ideal) (S := S192x32) (e := .f32) (ix2 r j) ![a, 0] ![32, 32]
      (k2_pay1 (F := Ideal) (View.ld (Val := Elt Ideal) (e' := .f32) x0 (Rect.unit ![a, a] ![32, 32] inb1))
        (View.ld (Val := Elt Ideal) (e' := .f32) x1 (Rect.unit ![b, 0] ![1, 1] inb2))) (wts x0 x1 r j) := by
  subst ha hb
  intro x hx
  have h0 : r.val = 32 * b + (x 0).val := hx 0
  have h1 : j.val = 0 + (x 1).val := hx 1
  have hx0 : (x 0).val < 32 := (x 0).isLt
  have hx1 : (x 1).val < 32 := (x 1).isLt
  obtain ⟨x0', x1', rfl⟩ : ∃ (p q : Fin 32), x = ix2 p q := ⟨x 0, x 1, by funext k; fin_cases k <;> rfl⟩
  rw [head_apply]
  unfold wts
  have hj : j = x1' := Fin.ext (by simpa using h1)
  have hr : r.val = 32 * b + x0'.val := h0
  rw [hj]
  refine congrFun (congrArg Spec.soft (funext fun d => ?_)) x1'
  congr 1
  · refine View.ld_unit_apply_of _ _ _ _ _ _ fun k => ?_
    fin_cases k
    · exact hr
    · show r.val / 32 * 32 + d.val = 32 * b + d.val
      omega
  · refine View.ld_unit_apply_of _ _ _ _ _ _ fun k => ?_
    fin_cases k
    · show r.val / 32 = b + 0
      omega
    · rfl

/-- What the third call leaves: every channel's attention weights. -/
theorem out2_apply (x0 : Vec Ideal S192x192 .f32) (x1 : Vec Ideal S6x1 .f32) (r : Fin 192) (j : Fin 32) :
    out2_2 (F := Ideal) x0 x1 (ix2 r j) = wts x0 x1 r j := by
  unfold out2_2
  rw [head1, head2, head3, head4, head5]
  refine View.canon_eq_of_allAt _ _ _ (View.cover_of_tiled_head _ _ _ (by rfl) _) ?_
  refine View.allAt_cons_unit _ _ _ _ _ (head_tile x0 x1 5 (by omega) 160 5 rfl rfl _ _ r j) ?_
  refine View.allAt_cons_unit _ _ _ _ _ (head_tile x0 x1 4 (by omega) 128 4 rfl rfl _ _ r j) ?_
  refine View.allAt_cons_unit _ _ _ _ _ (head_tile x0 x1 3 (by omega) 96 3 rfl rfl _ _ r j) ?_
  refine View.allAt_cons_unit _ _ _ _ _ (head_tile x0 x1 2 (by omega) 64 2 rfl rfl _ _ r j) ?_
  refine View.allAt_cons_unit _ _ _ _ _ (head_tile x0 x1 1 (by omega) 32 1 rfl rfl _ _ r j) ?_
  refine View.allAt_cons_unit _ _ _ _ _ (head_tile x0 x1 0 (by omega) 0 0 rfl rfl _ _ r j) ?_
  exact View.allAt_nil _ _

end Cert.KernelIdeal.Gen
-- ==== Proof.Val.Arr2.lean ====
/- The third call's array: every channel's attention weights. -/
module

public import proofs.«01_k».proof.Proof.Val.Out2

@[expose] public section

set_option backward.proofsInPublic true
set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The blocks of the third call are its arrays. -/
theorem idx2 : ∀ t : Fin cfg2.N, win2_0.index t = ![0, 0] ∧ win2_1.index t = ![0, 0] :=
  (by decide +kernel : ∀ t : Fin grid2.N, _)

/-- The products, whole. -/
theorem g_read (c : Dev nD) : iblk2 V c 0 t2_0 = V c main_call0_v8 := by
  blk_ext! [iblk2, idx2 t2_0]

/-- The factors, whole. -/
theorem f_read (c : Dev nD) : iblk2 V c 1 t2_0 = V c main_call0_v5 := by
  blk_ext! [iblk2, idx2 t2_0]

/-- The attention weights after the call. -/
theorem wts_arr (c : Dev nD) : (dat2 V c).arrAt 2 cfg2.N
    = (fun j => wts (V c main_call0_v8) (V c main_call0_v5) (j 0) (j 1) : Vec Ideal S192x32 .f32) := by
  refine (dat2 V c).arrAt_eq_of_after_last 2 t2_0 (by decide +kernel) _ fun j => ?_
  blk_simp
  rw [after2_2]
  obtain ⟨r, k, rfl⟩ : ∃ (r : Fin 192) (k : Fin 32), j = ix2 r k := ⟨j 0, j 1, by funext a; fin_cases a <;> rfl⟩
  rw [g_read, f_read]
  exact out2_apply _ _ r k

end Cert.KernelIdeal.Gen
-- ==== Proof.Val.Out3.lean ====
/- The fourth call's output at a grid point: weighted values of each head, scaled and projected. -/
module

public import proofs.«01_k».proof.Proof.RunI.Region3
public import proofs.«01_k».proof.Proof.Val.Mat
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- Channel `r` of the weighted values at column `n` of the block. -/
def wv (a : Vec Ideal S192x32 .f32) (v : Vec Ideal S192x3584 .bf16) (r : Fin 192) (n : Fin 3584) : EReal :=
  ∑ d : Fin 32, (a (ix2 r d) : EReal) * v (ix2 ⟨r.val / 32 * 32 + d.val, by omega⟩ n)

/-- Channel `o` of the projected block at column `n`. -/
def blk3 (a : Vec Ideal S192x32 .f32) (v : Vec Ideal S192x3584 .bf16) (p : Vec Ideal S192x192 .f32) (s : Vec Ideal S1x1 .f32)
    (o : Fin 192) (n : Fin 3584) : EReal :=
  ∑ k : Fin 192, (p (ix2 o k) : EReal) * (wv a v k n * s (ix2 0 0))

/-- A head's part of the scratch, where it holds a row, has that row's weighted values. -/
theorem part_tile (a : Vec Ideal S192x32 .f32) (v : Vec Ideal S192x3584 .bf16) (h : ℕ) (hh : h < 6) (b : ℕ) (hb : b = 32 * h) (inb)
    (w : Vec Ideal S32x3584 .f32)
    (hw : ∀ (p : Fin 32) (n : Fin 3584), w (ix2 p n) = ∑ d : Fin 32, (a (ix2 ⟨b + p.val, by omega⟩ d) : EReal)
      * View.ld (Val := Elt Ideal) (e' := .bf16) v (Rect.unit ![b, 0] ![32, 3584] inb) (ix2 d n)) (r : Fin 192) (n : Fin 3584) :
    View.TileAt (Val := Elt Ideal) (S := S192x3584) (e := .f32) (ix2 r n) ![b, 0] ![32, 3584] w (wv a v r n) := by
  subst hb
  intro x hx
  have h0 : r.val = 32 * h + (x 0).val := hx 0
  have h1 : n.val = 0 + (x 1).val := hx 1
  obtain ⟨p, q, rfl⟩ : ∃ (p : Fin 32) (q : Fin 3584), x = ix2 p q := ⟨x 0, x 1, by funext k; fin_cases k <;> rfl⟩
  rw [hw]
  unfold wv
  have hn : n = q := Fin.ext (by simpa using h1)
  have hr : r.val = 32 * h + p.val := h0
  rw [hn]
  refine Finset.sum_congr rfl fun d _ => ?_
  congr 1
  · exact congrArg a (congrArg (fun z => ix2 z d) (Fin.ext hr.symm))
  · refine View.ld_unit_apply_of _ _ _ _ _ _ fun k => ?_
    fin_cases k
    · show r.val / 32 * 32 + d.val = 32 * h + d.val
      omega
    · exact (Nat.zero_add _).symm

/-- The six heads' parts as the kernel stores them, the last one first. -/
def parts (a : Vec Ideal S192x32 .f32) (v : Vec Ideal S192x3584 .bf16) : List (View.Piece (Elt Ideal) S192x3584 .f32) :=
  [⟨Rect.unit ![160, 0] ![32, 3584] inb_S192x3584_S32x3584_160_0, k3_pay2 (F := Ideal) (k3_pay4 (F := Ideal) a) (View.ld (Val := Elt Ideal) (e' := .bf16) v (Rect.unit ![160, 0] ![32, 3584] inb_S192x3584_S32x3584_160_0))⟩,
    ⟨Rect.unit ![128, 0] ![32, 3584] inb_S192x3584_S32x3584_128_0, k3_pay1 (F := Ideal) (k3_pay9 (F := Ideal) a) (View.ld (Val := Elt Ideal) (e' := .bf16) v (Rect.unit ![128, 0] ![32, 3584] inb_S192x3584_S32x3584_128_0))⟩,
    ⟨Rect.unit ![96, 0] ![32, 3584] inb_S192x3584_S32x3584_96_0, k3_pay8 (F := Ideal) a (View.ld (Val := Elt Ideal) (e' := .bf16) v (Rect.unit ![96, 0] ![32, 3584] inb_S192x3584_S32x3584_96_0))⟩,
    ⟨Rect.unit ![64, 0] ![32, 3584] inb_S192x3584_S32x3584_64_0, k3_pay7 (F := Ideal) a (View.ld (Val := Elt Ideal) (e' := .bf16) v (Rect.unit ![64, 0] ![32, 3584] inb_S192x3584_S32x3584_64_0))⟩,
    ⟨Rect.unit ![32, 0] ![32, 3584] inb_S192x3584_S32x3584_32_0, k3_pay6 (F := Ideal) a (View.ld (Val := Elt Ideal) (e' := .bf16) v (Rect.unit ![32, 0] ![32, 3584] inb_S192x3584_S32x3584_32_0))⟩,
    ⟨Rect.unit ![0, 0] ![32, 3584] inb_S192x3584_S32x3584_0_0, k3_pay5 (F := Ideal) a (View.ld (Val := Elt Ideal) (e' := .bf16) v (Rect.unit ![0, 0] ![32, 3584] inb_S192x3584_S32x3584_0_0))⟩]

/-- The scratch after the six stores. -/
theorem parts_apply (a : Vec Ideal S192x32 .f32) (v : Vec Ideal S192x3584 .bf16) (k : Fin 192) (n : Fin 3584) :
    View.canon (parts a v) (ix2 k n) = wv a v k n := by
  unfold parts
  refine View.canon_eq_of_allAt _ _ _ (View.cover_of_tiled_head _ _ _ (by rfl) _) ?_
  refine View.allAt_cons_unit _ _ _ _ _ (part_tile a v 5 (by omega) 160 rfl inb_S192x3584_S32x3584_160_0 _ (fun p n => mix5 _ _ p n) k n) ?_
  refine View.allAt_cons_unit _ _ _ _ _ (part_tile a v 4 (by omega) 128 rfl inb_S192x3584_S32x3584_128_0 _ (fun p n => mix4 _ _ p n) k n) ?_
  refine View.allAt_cons_unit _ _ _ _ _ (part_tile a v 3 (by omega) 96 rfl inb_S192x3584_S32x3584_96_0 _ (fun p n => mix3 _ _ p n) k n) ?_
  refine View.allAt_cons_unit _ _ _ _ _ (part_tile a v 2 (by omega) 64 rfl inb_S192x3584_S32x3584_64_0 _ (fun p n => mix2 _ _ p n) k n) ?_
  refine View.allAt_cons_unit _ _ _ _ _ (part_tile a v 1 (by omega) 32 rfl inb_S192x3584_S32x3584_32_0 _ (fun p n => mix1 _ _ p n) k n) ?_
  refine View.allAt_cons_unit _ _ _ _ _ (part_tile a v 0 (by omega) 0 rfl inb_S192x3584_S32x3584_0_0 _ (fun p n => (mix0 _ _ p n).trans (by simp)) k n) ?_
  exact View.allAt_nil _ _

/-- The scratch read back whole. -/
theorem parts_read (a : Vec Ideal S192x32 .f32) (v : Vec Ideal S192x3584 .bf16) {sg : RefSig} {κ : Kind} {sp : Space}
    (w : View sg κ sp S192x3584 .f32) :
    w.readCov (parts a v) (Rect.unit ![0, 0] ![192, 3584] inb_S192x3584_S192x3584_0_0).toLoadRect = View.canon (parts a v) := by
  rw [View.readCov_eq_canon']
  exact View.ld_unit_lit' (S := S192x3584) (off := ![0, 0]) inb_S192x3584_S192x3584_0_0 (View.canon (parts a v)) (by decide)

set_option backward.isDefEq.respectTransparency.types false in
/-- The fourth call's block at a point, as one payload. -/
theorem out3_pay (c : Dev nD) (t : Fin cfg3.N) :
    outsAt3 V c t = k3_pay3 (F := Ideal) (View.canon (parts (iblk3 V c 1 t) (iblk3 V c 0 t))) (iblk3 V c 3 t) (iblk3 V c 2 t) := by
  unfold outsAt3
  frame_out
  exact congrArg (fun q => k3_pay3 (F := Ideal) q (iblk3 V c 3 t) (iblk3 V c 2 t)) (parts_read (iblk3 V c 1 t) (iblk3 V c 0 t) _)

/-- The payload at an index: the weighted values of all channels, scaled and projected. -/
theorem pay_apply (a : Vec Ideal S192x32 .f32) (v : Vec Ideal S192x3584 .bf16) (p : Vec Ideal S192x192 .f32) (s : Vec Ideal S1x1 .f32)
    (o : Fin 192) (n : Fin 3584) :
    k3_pay3 (F := Ideal) (View.canon (parts a v)) s p (ix2 o n) = blk3 a v p s o n := by
  rw [proj_apply]
  unfold blk3
  exact Finset.sum_congr rfl fun k _ => congrArg (fun z => p (ix2 o k) * (z * s (ix2 0 0))) (parts_apply a v k n)

end Cert.KernelIdeal.Gen
-- ==== Proof.Val.Arr3.lean ====
/- The fourth call's array: the projected result. -/
module

public import proofs.«01_k».proof.Proof.Val.Out3

@[expose] public section

set_option backward.proofsInPublic true
set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The blocks of the fourth call at point `t`. -/
theorem idx3 : ∀ t : Fin cfg3.N, win3_0.index t = ![0, t.val] ∧ win3_1.index t = ![0, 0] ∧ win3_2.index t = ![0, 0] ∧ win3_3.index t = ![0, 0]
    ∧ win3_4.index t = ![0, t.val] :=
  (by decide +kernel : ∀ t : Fin grid3.N, _)

/-- The block's values. -/
theorem v_read (c : Dev nD) (t : Fin cfg3.N) (o : Fin 192) (n : Fin 3584) (h' : t.val * 3584 + n.val < 50176) :
    (iblk3 V c 0 t : Vec Ideal S192x3584 .bf16) (ix2 o n) = (V c main_call0_v7_1 : Vec Ideal S192x50176 .bf16) (ix2 o ⟨t.val * 3584 + n.val, h'⟩) := by
  blk_ext [iblk3, idx3 t]

/-- The attention weights, whole at every point. -/
theorem a_read (c : Dev nD) (t : Fin cfg3.N) (r : Fin 192) (d : Fin 32) :
    (iblk3 V c 1 t : Vec Ideal S192x32 .f32) (ix2 r d) = (V c main_call0_v9 : Vec Ideal S192x32 .f32) (ix2 r d) := by
  blk_ext [iblk3, idx3 t]

/-- The output projection's weights. -/
theorem p_read (c : Dev nD) (t : Fin cfg3.N) (r k : Fin 192) :
    (iblk3 V c 2 t : Vec Ideal S192x192 .f32) (ix2 r k) = (V c main_call0_v4 : Vec Ideal S192x192 .f32) (ix2 r k) := by
  blk_ext [iblk3, idx3 t]

/-- The scale. -/
theorem s_read (c : Dev nD) (t : Fin cfg3.N) :
    (iblk3 V c 3 t : Vec Ideal S1x1 .f32) (ix2 0 0) = (V c main_call0_v6 : Vec Ideal S1x1 .f32) (ix2 0 0) := by
  blk_ext [iblk3, idx3 t]

/-- The projected result over whole arrays. -/
def res (a : Vec Ideal S192x32 .f32) (v : Vec Ideal S192x50176 .bf16) (p : Vec Ideal S192x192 .f32) (s : Vec Ideal S1x1 .f32)
    (o : Fin 192) (n : Fin 50176) : EReal :=
  ∑ k : Fin 192, (p (ix2 o k) : EReal) * ((∑ d : Fin 32, (a (ix2 k d) : EReal) * v (ix2 ⟨k.val / 32 * 32 + d.val, by omega⟩ n)) * s (ix2 0 0))

/-- The fourth call's block at a point is the result's. -/
theorem res_at (c : Dev nD) (t : Fin cfg3.N) (o : Fin 192) (n : Fin 3584) (h' : t.val * 3584 + n.val < 50176) :
    outsAt3 V c t (ix2 o n) = res (V c main_call0_v9) (V c main_call0_v7_1) (V c main_call0_v4) (V c main_call0_v6) o ⟨t.val * 3584 + n.val, h'⟩ := by
  rw [out3_pay, pay_apply]
  unfold blk3 res wv
  refine Finset.sum_congr rfl fun k _ => ?_
  rw [p_read, s_read]
  congr 2
  refine Finset.sum_congr rfl fun d _ => ?_
  rw [a_read, v_read V c t _ n h']

/-- The result after the call. -/
theorem res_arr (c : Dev nD) : (dat3 V c).arrAt 4 cfg3.N
    = (fun j => res (V c main_call0_v9) (V c main_call0_v7_1) (V c main_call0_v4) (V c main_call0_v6)
        ⟨(j 0).val, lt_of_lt_of_le (j 0).isLt (by decide)⟩ ⟨(j 1).val, lt_of_lt_of_le (j 1).isLt (by decide)⟩ : Vec Ideal S192x50176 .f32) := by
  refine (dat3 V c).arrAt_eq_of_covers 4 _ (by decide +kernel) fun t hf' y => ?_
  obtain ⟨o, n, rfl⟩ : ∃ (o : Fin 192) (n : Fin 3584), y = ix2 o n := ⟨y 0, y 1, by funext a; fin_cases a <;> rfl⟩
  have ht : t.val < 14 := N_3 ▸ t.isLt
  have hn := n.isLt
  blk_simp [idx3 t]
  rw [after3_4, res_at V c t o n (by omega)]

end Cert.KernelIdeal.Gen
-- ==== Proof.Val.Final.lean ====
/- The kernel's result: what it leaves in its output array, of its arguments. -/
module

public import proofs.«01_k».proof.Proof.RunI.Fold0
public import proofs.«01_k».proof.Proof.Val.Arr0
public import proofs.«01_k».proof.Proof.Val.Arr1
public import proofs.«01_k».proof.Proof.Val.Arr2
public import proofs.«01_k».proof.Proof.Val.Arr3
public import Idealize.ShloMosaic.Lib.StableHlo.RunRead

@[expose] public section

set_option backward.proofsInPublic true
set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (ρ : Dev nD → PrngReg) (c : Dev nD)

/-- The image, at a channel, a row and a column. -/
def aX (x : Vec Ideal S1x192x224x224 .f32) (k : Fin 192) (h w : Fin 224) : EReal := x (ix4 0 k h w)
/-- The input projection's weights. -/
def aW (x : Vec Ideal S576x192x1x1 .f32) (o : Fin 576) (k : Fin 192) : EReal := x (ix4 o k 0 0)
/-- The taps' weights. -/
def aD (x : Vec Ideal S576x1x3x3 .f32) (o : Fin 576) (q : Fin 9) : EReal := x (ix4 o 0 ⟨q.val / 3, by omega⟩ ⟨q.val % 3, by omega⟩)
/-- The output projection's weights. -/
def aP (x : Vec Ideal S192x192x1x1 .f32) (o k : Fin 192) : EReal := x (ix4 o k 0 0)
/-- The heads' factors. -/
def aT (x : Vec Ideal S6x1x1 .f32) (h : Fin 6) : EReal := x (ix3 h 0 0)
/-- The scale. -/
def aA (x : Vec Ideal S1 .f32) : EReal := x (ix1 0)

variable (v : Valuation τ sig (Elt Ideal))

/-- Before the first call: the reshaped argument 0. -/
theorem host0 : StableHlo.after hostOps0 v (Proc.devRef .tc main_call0_v0) = shapeCast S192x50176 (v (Proc.devRef .tc main_arg0)) shapeCasts_S1x192x224x224_S192x50176 := by
  after_reads_simp; rfl

/-- Before the first call: the reshaped argument 0. -/
theorem host1 : StableHlo.after hostOps0 v (Proc.devRef .tc main_call0_v1) = shapeCast S192x224x224 (v (Proc.devRef .tc main_arg0)) shapeCasts_S1x192x224x224_S192x224x224 := by
  after_reads_simp; rfl

/-- Before the first call: the reshaped argument 1. -/
theorem host2 : StableHlo.after hostOps0 v (Proc.devRef .tc main_call0_v2) = shapeCast S576x192 (v (Proc.devRef .tc main_arg1)) shapeCasts_S576x192x1x1_S576x192 := by
  after_reads_simp; rfl

/-- Before the first call: the reshaped argument 2. -/
theorem host3 : StableHlo.after hostOps0 v (Proc.devRef .tc main_call0_v3) = shapeCast S576x9 (v (Proc.devRef .tc main_arg2)) shapeCasts_S576x1x3x3_S576x9 := by
  after_reads_simp; rfl

/-- Before the first call: the reshaped argument 3. -/
theorem host4 : StableHlo.after hostOps0 v (Proc.devRef .tc main_call0_v4) = shapeCast S192x192 (v (Proc.devRef .tc main_arg3)) shapeCasts_S192x192x1x1_S192x192 := by
  after_reads_simp; rfl

/-- Before the first call: the reshaped argument 4. -/
theorem host5 : StableHlo.after hostOps0 v (Proc.devRef .tc main_call0_v5) = shapeCast S6x1 (v (Proc.devRef .tc main_arg4)) shapeCasts_S6x1x1_S6x1 := by
  after_reads_simp; rfl

/-- Before the first call: the reshaped argument 5. -/
theorem host6 : StableHlo.after hostOps0 v (Proc.devRef .tc main_call0_v6) = shapeCast S1x1 (v (Proc.devRef .tc main_arg5)) shapeCasts_S1_S1x1 := by
  after_reads_simp; rfl

/-- After the last call: the reshaped result. -/
theorem host7 : StableHlo.after hostOps4 v (Proc.devRef .tc main_v0) = shapeCast S1x192x224x224 (v (Proc.devRef .tc main_call0_v10)) shapeCasts_S192x50176_S1x192x224x224 := by
  after_reads_simp; rfl

/-- The image as rows of pixels, as the first call finds it. -/
theorem in0 (x : Vec Ideal S1x192x224x224 .f32) (k : Fin 192) (n : Fin 50176) : shapeCast S192x50176 x shapeCasts_S1x192x224x224_S192x50176 (ix2 k n)
    = aX x k ⟨n.val / 224, by omega⟩ ⟨n.val % 224, by omega⟩ := by
  unfold aX
  pointwise

/-- The image as it is, of the argument. -/
theorem in1 (x : Vec Ideal S1x192x224x224 .f32) (k : Fin 192) (h w : Fin 224) : shapeCast S192x224x224 x shapeCasts_S1x192x224x224_S192x224x224 (ix3 k h w)
    = aX x k h w := by
  unfold aX
  pointwise

/-- The input projection's weights, of the argument. -/
theorem in2 (x : Vec Ideal S576x192x1x1 .f32) (o : Fin 576) (k : Fin 192) : shapeCast S576x192 x shapeCasts_S576x192x1x1_S576x192 (ix2 o k)
    = aW x o k := by
  unfold aW
  pointwise

/-- The taps' weights, of the argument. -/
theorem in3 (x : Vec Ideal S576x1x3x3 .f32) (o : Fin 576) (k : Fin 9) : shapeCast S576x9 x shapeCasts_S576x1x3x3_S576x9 (ix2 o k)
    = aD x o k := by
  unfold aD
  pointwise

/-- The output projection's weights, of the argument. -/
theorem in4 (x : Vec Ideal S192x192x1x1 .f32) (o k : Fin 192) : shapeCast S192x192 x shapeCasts_S192x192x1x1_S192x192 (ix2 o k)
    = aP x o k := by
  unfold aP
  pointwise

/-- The heads' factors, of the argument. -/
theorem in5 (x : Vec Ideal S6x1x1 .f32) (h : Fin 6) : shapeCast S6x1 x shapeCasts_S6x1x1_S6x1 (ix2 h 0)
    = aT x h := by
  unfold aT
  pointwise

/-- The scale, of the argument. -/
theorem in6 (x : Vec Ideal S1 .f32) : shapeCast S1x1 x shapeCasts_S1_S1x1 (ix2 0 0)
    = aA x := by
  unfold aA
  pointwise

/-- The result, of the last array. -/
theorem out6 (x : Vec Ideal S192x50176 .f32) (o : Fin 192) (h w : Fin 224) : shapeCast S1x192x224x224 x shapeCasts_S192x50176_S1x192x224x224 (ix4 0 o h w)
    = x (ix2 o ⟨h.val * 224 + w.val, by omega⟩) := by
  pointwise

/-- The queries', keys' and values' channels, of the arguments. -/
def kZ : Fin 576 → ℕ → EReal :=
  Spec.z (aW (m ((c.tc : Thread nD τ).loc main_arg1))) (aX (m ((c.tc : Thread nD τ).loc main_arg0))) (aD (m ((c.tc : Thread nD τ).loc main_arg2)))

/-- The first call finds the input projection's weights. -/
theorem e2 (o : Fin 576) (k : Fin 192) : (V1 m ρ c main_call0_v2 : Vec Ideal S576x192 .f32) (ix2 o k) = aW (m ((c.tc : Thread nD τ).loc main_arg1)) o k :=
  (congrFun (host2 (W0 m ρ c)) _).trans (in2 _ o k)
/-- The first call finds the image. -/
theorem e1 (k : Fin 192) (h w : Fin 224) : (V1 m ρ c main_call0_v1 : Vec Ideal S192x224x224 .f32) (ix3 k h w) = aX (m ((c.tc : Thread nD τ).loc main_arg0)) k h w :=
  (congrFun (host1 (W0 m ρ c)) _).trans (in1 _ k h w)
/-- The first call finds the image as rows of pixels. -/
theorem e0 (k : Fin 192) (n : Fin 50176) : (V1 m ρ c main_call0_v0 : Vec Ideal S192x50176 .f32) (ix2 k n)
    = aX (m ((c.tc : Thread nD τ).loc main_arg0)) k ⟨n.val / 224, by omega⟩ ⟨n.val % 224, by omega⟩ :=
  (congrFun (host0 (W0 m ρ c)) _).trans (in0 _ k n)
/-- The first call finds the taps' weights. -/
theorem e3 (o : Fin 576) (q : Fin 9) : (V1 m ρ c main_call0_v3 : Vec Ideal S576x9 .f32) (ix2 o q) = aD (m ((c.tc : Thread nD τ).loc main_arg2)) o q :=
  (congrFun (host3 (W0 m ρ c)) _).trans (in3 _ o q)

/-- The second call finds the queries and the keys. -/
theorem f0 (o : Fin 384) (n : Fin 50176) : (V2 m ρ c main_call0_v7_0 : Vec Ideal S384x50176 .f32) (ix2 o n) = kZ m c ⟨o.val, by omega⟩ n.val :=
  (congrFun ((W2_arr m ρ c 5).trans (zqk_arr (V1 m ρ) _ _ _ c (e2 m ρ c) (e1 m ρ c) (e0 m ρ c) (e3 m ρ c))) _)
/-- The second call finds the queries' sums of squares. -/
theorem f2 (r : Fin 192) : (V2 m ρ c main_call0_v7_2 : Vec Ideal S192x1 .f32) (ix2 r 0) = Spec.sq (kZ m c) ⟨r.val, by omega⟩ :=
  (congrFun ((W2_arr m ρ c 7).trans (qsq_arr (V1 m ρ) _ _ _ c (e2 m ρ c) (e1 m ρ c) (e0 m ρ c) (e3 m ρ c))) _)
/-- The second call finds the keys' sums of squares. -/
theorem f3 (r : Fin 192) : (V2 m ρ c main_call0_v7_3 : Vec Ideal S192x1 .f32) (ix2 r 0) = Spec.sq (kZ m c) ⟨192 + r.val, by omega⟩ :=
  (congrFun ((W2_arr m ρ c 8).trans (ksq_arr (V1 m ρ) _ _ _ c (e2 m ρ c) (e1 m ρ c) (e0 m ρ c) (e3 m ρ c))) _)

/-- The third call finds the products. -/
theorem g0 (r s : Fin 192) : (V3 m ρ c main_call0_v8 : Vec Ideal S192x192 .f32) (ix2 r s) = Spec.gram (kZ m c) ⟨r.val, by omega⟩ ⟨192 + s.val, by omega⟩ :=
  (congrFun ((W3_arr m ρ c 3).trans (gram_arr (V2 m ρ) (kZ m c) c (f0 m ρ c) (f2 m ρ c) (f3 m ρ c))) _)
/-- The third call finds the heads' factors. -/
theorem g1 (h : Fin 6) : (V3 m ρ c main_call0_v5 : Vec Ideal S6x1 .f32) (ix2 h 0) = aT (m ((c.tc : Thread nD τ).loc main_arg4)) h :=
  (congrFun ((W3_of m ρ c main_call0_v5 (by decide +kernel)).trans ((W2_of m ρ c main_call0_v5 (by decide +kernel)).trans (host5 (W0 m ρ c)))) _).trans (in5 _ h)

/-- The fourth call finds the attention weights. -/
theorem h0 (r : Fin 192) (d : Fin 32) : (V4 m ρ c main_call0_v9 : Vec Ideal S192x32 .f32) (ix2 r d)
    = Spec.attn (kZ m c) (aT (m ((c.tc : Thread nD τ).loc main_arg4))) r d := by
  refine (congrFun ((W4_arr m ρ c 2).trans (wts_arr (V3 m ρ) c)) (ix2 r d)).trans ?_
  change wts _ _ r d = _
  unfold wts Spec.attn
  refine congrArg (fun f => Spec.soft f d) (funext fun e => ?_)
  rw [g0, g1]
  congr 2
  exact Fin.ext (by simp only []; omega)
/-- The fourth call finds the values. -/
theorem h1 (o : Fin 192) (n : Fin 50176) : (V4 m ρ c main_call0_v7_1 : Vec Ideal S192x50176 .bf16) (ix2 o n) = kZ m c ⟨384 + o.val, by omega⟩ n.val :=
  (congrFun ((W4_of m ρ c main_call0_v7_1 (by decide +kernel)).trans ((W3_of m ρ c main_call0_v7_1 (by decide +kernel)).trans
    ((W2_arr m ρ c 6).trans (vb_arr (V1 m ρ) _ _ _ c (e2 m ρ c) (e1 m ρ c) (e0 m ρ c) (e3 m ρ c))))) _)
/-- The fourth call finds the output projection's weights. -/
theorem h2 (o k : Fin 192) : (V4 m ρ c main_call0_v4 : Vec Ideal S192x192 .f32) (ix2 o k) = aP (m ((c.tc : Thread nD τ).loc main_arg3)) o k :=
  (congrFun ((W4_of m ρ c main_call0_v4 (by decide +kernel)).trans ((W3_of m ρ c main_call0_v4 (by decide +kernel)).trans
    ((W2_of m ρ c main_call0_v4 (by decide +kernel)).trans (host4 (W0 m ρ c))))) _).trans (in4 _ o k)
/-- The fourth call finds the scale. -/
theorem h3 : (V4 m ρ c main_call0_v6 : Vec Ideal S1x1 .f32) (ix2 0 0) = aA (m ((c.tc : Thread nD τ).loc main_arg5)) :=
  (congrFun ((W4_of m ρ c main_call0_v6 (by decide +kernel)).trans ((W3_of m ρ c main_call0_v6 (by decide +kernel)).trans
    ((W2_of m ρ c main_call0_v6 (by decide +kernel)).trans (host6 (W0 m ρ c))))) _).trans (in6 _)

/-- The last array holds the projected result. -/
theorem res_out (o : Fin 192) (n : Fin 50176) : (W5 m ρ c (Proc.devRef .tc main_call0_v10) : Vec Ideal S192x50176 .f32) (ix2 o n)
    = Spec.out (kZ m c) (aT (m ((c.tc : Thread nD τ).loc main_arg4))) (aA (m ((c.tc : Thread nD τ).loc main_arg5))) (aP (m ((c.tc : Thread nD τ).loc main_arg3))) o n.val := by
  refine (congrFun ((W5_arr m ρ c 4).trans (res_arr (V4 m ρ) c)) (ix2 o n)).trans ?_
  change res _ _ _ _ o n = _
  unfold res Spec.out Spec.mix
  refine Finset.sum_congr rfl fun k _ => ?_
  rw [h2, h3]
  congr 2
  refine Finset.sum_congr rfl fun d _ => ?_
  rw [h0, h1]
  congr 2
  exact Fin.ext (by simp only []; omega)

/-- What the run leaves in the result: the projected result at every channel and pixel. -/
theorem out_val (o : Fin 192) (h w : Fin 224) : (W6 m ρ c (Proc.devRef .tc main_v0) : Vec Ideal S1x192x224x224 .f32) (ix4 0 o h w)
    = Spec.out (kZ m c) (aT (m ((c.tc : Thread nD τ).loc main_arg4))) (aA (m ((c.tc : Thread nD τ).loc main_arg5))) (aP (m ((c.tc : Thread nD τ).loc main_arg3)))
        o (h.val * 224 + w.val) :=
  (congrFun (host7 (W5 m ρ c)) _).trans ((out6 _ o h w).trans (res_out m ρ c o _))

end Cert.KernelIdeal.Gen
-- ==== Proof.Val.Ref0.lean ====
/- The reference's queries, keys and values: the projected image, its border and the nine taps. -/
module

public import proofs.«01_k».proof.Proof.Gen.ReferenceIdeal.Read
public import proofs.«01_k».proof.Proof.Val.Spec
public import Idealize.ShloMosaic.Lib.Pointwise

@[expose] public section

set_option backward.proofsInPublic true
set_option maxRecDepth 16384

noncomputable section

namespace Cert.ReferenceIdeal.Read

open Cert.ReferenceIdeal Cert.ReferenceIdeal.Gen Idealize.ShloMosaic Idealize.ShloMosaic.TcCoe Idealize.ShloMosaic.Tactic

/-- A tap of the nine. -/
theorem tap_lt (p q : Fin 3) : p.val * 3 + q.val < 9 := by omega

variable (W : Fin 576 → Fin 192 → EReal) (X : Fin 192 → Fin 224 → Fin 224 → EReal) (D : Fin 576 → Fin 9 → EReal)
variable (x0 : Vec Ideal S1x192x224x224 .f32) (x1 : Vec Ideal S576x192x1x1 .f32) (x2 : Vec Ideal S576x1x3x3 .f32)
variable (hx : ∀ k h w, x0 (ix4 0 k h w) = X k h w) (hw : ∀ o k, x1 (ix4 o k 0 0) = W o k)
  (hd : ∀ (o : Fin 576) (p q : Fin 3), x2 (ix4 o 0 p q) = D o ⟨p.val * 3 + q.val, tap_lt p q⟩)

include hx hw

/-- The projected image. -/
theorem v2_at (o : Fin 576) (h w : Fin 224) :
    val_main_v2 (F := Ideal) x0 x1 (ix4 0 o h w) = ∑ k : Fin 192, W o k * X k h w := by
  rw [val_main_v2_apply, val_main_v1_apply]
  refine Finset.sum_congr rfl fun k _ => ?_
  rw [val_main_v0_apply, mul_comm, ← hw, ← hx]
  congr 1
  · congr 1
    funext a; fin_cases a <;> refine Fin.ext ?_ <;> simp
    have := k.isLt
    omega
  · congr 1
    funext a; fin_cases a <;> rfl

/-- The projected image with its border. -/
theorem v3_at (o : Fin 576) (a b : ℕ) (ha : a < 226) (hb : b < 226) :
    val_main_v3 (F := Ideal) x0 x1 (ix4 0 o ⟨a, ha⟩ ⟨b, hb⟩) = Spec.yp W X o a b := by
  have hz : (val_main_call0_v0 (F := Ideal) : Vec Ideal S_ .f32) (Shape.Idx.first h_S_) = 0 := by
    rw [val_main_call0_v0_apply, val_main_c_apply]
    simp [FloatOps.sitofp]
  have h2 := v2_at W X x0 x1 hx hw o
  unfold val_main_v3
  revert hz h2
  generalize val_main_v2 (F := Ideal) x0 x1 = y
  generalize val_main_call0_v0 (F := Ideal) = z
  intro hz h2
  unfold Spec.yp
  pointwise
  rw [hz]
  by_cases h : (1 ≤ a ∧ a - 1 < 224) ∧ 1 ≤ b ∧ b - 1 < 224
  · rw [dif_pos h, dif_pos (by omega), h2]
  · rw [dif_neg h, dif_neg (by omega)]

include hd

/-- Queries, keys and values before they are split. -/
theorem v67_at (o : Fin 576) (h w : Fin 224) :
    val_main_v67 (F := Ideal) x0 x1 x2 (ix4 0 o h w) = Spec.conv (Spec.yp W X o) (D o) h.val w.val := by
  have h3 := v3_at W X x0 x1 hx hw o
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_cst
  revert h3
  generalize val_main_v3 (F := Ideal) x0 x1 = y
  intro h3
  pointwise
  simp only [hd, h3, Nat.add_comm 1, Nat.add_comm 2]
  rfl

end Cert.ReferenceIdeal.Read
-- ==== Proof.Val.Ref1.lean ====
/- The reference's products of unit queries and unit keys. -/
module

public import proofs.«01_k».proof.Proof.Val.Ref0

@[expose] public section

set_option backward.proofsInPublic true
set_option maxRecDepth 16384

noncomputable section

namespace Cert.ReferenceIdeal.Read

open Cert.ReferenceIdeal Cert.ReferenceIdeal.Gen Idealize.ShloMosaic Idealize.ShloMosaic.TcCoe Idealize.ShloMosaic.Tactic

variable (W : Fin 576 → Fin 192 → EReal) (X : Fin 192 → Fin 224 → Fin 224 → EReal) (D : Fin 576 → Fin 9 → EReal)
variable (x0 : Vec Ideal S1x192x224x224 .f32) (x1 : Vec Ideal S576x192x1x1 .f32) (x2 : Vec Ideal S576x1x3x3 .f32)
variable (hx : ∀ k h w, x0 (ix4 0 k h w) = X k h w) (hw : ∀ o k, x1 (ix4 o k 0 0) = W o k)
  (hd : ∀ (o : Fin 576) (p q : Fin 3), x2 (ix4 o 0 p q) = D o ⟨p.val * 3 + q.val, tap_lt p q⟩)

include hx hw hd

/-- The queries, by head. -/
theorem q_at (g : Fin 6) (r : Fin 32) (n : Fin 50176) :
    val_main_v71 (F := Ideal) x0 x1 x2 (ix4 0 g r n) = Spec.z W X D ⟨g.val * 32 + r.val, by omega⟩ n.val := by
  have h := fun o => v67_at W X D x0 x1 x2 hx hw hd o
  unfold val_main_v71 val_main_v68
  revert h
  generalize val_main_v67 (F := Ideal) x0 x1 x2 = y
  intro h
  pointwise
  rw [h]
  rfl

/-- The keys, by head. -/
theorem k_at (g : Fin 6) (r : Fin 32) (n : Fin 50176) :
    val_main_v72 (F := Ideal) x0 x1 x2 (ix4 0 g r n) = Spec.z W X D ⟨192 + (g.val * 32 + r.val), by omega⟩ n.val := by
  have h := fun o => v67_at W X D x0 x1 x2 hx hw hd o
  unfold val_main_v72 val_main_v69
  revert h
  generalize val_main_v67 (F := Ideal) x0 x1 x2 = y
  intro h
  pointwise
  rw [h]
  rfl

/-- The values, by head. -/
theorem v_at (g : Fin 6) (r : Fin 32) (n : Fin 50176) :
    val_main_v73 (F := Ideal) x0 x1 x2 (ix4 0 g r n) = Spec.z W X D ⟨384 + (g.val * 32 + r.val), by omega⟩ n.val := by
  have h := fun o => v67_at W X D x0 x1 x2 hx hw hd o
  unfold val_main_v73 val_main_v70
  revert h
  generalize val_main_v67 (F := Ideal) x0 x1 x2 = y
  intro h
  pointwise
  rw [h]
  rfl

/-- The queries of unit length. -/
theorem qn_at (g : Fin 6) (r : Fin 32) (n : Fin 50176) :
    val_main_v78 (F := Ideal) x0 x1 x2 (ix4 0 g r n)
      = Ideal.div (Spec.z W X D ⟨g.val * 32 + r.val, by omega⟩ n.val) (Spec.len (Spec.sq (Spec.z W X D) ⟨g.val * 32 + r.val, by omega⟩)) := by
  have h := fun g r n => q_at W X D x0 x1 x2 hx hw hd g r n
  unfold val_main_v78 val_main_v77 val_main_v76 val_main_v75 val_main_v74 val_main_cst_0 val_main_call1_v2 val_main_call1_v1 val_main_call1_v0 val_main_call1_cst
  revert h
  generalize val_main_v71 (F := Ideal) x0 x1 x2 = y
  intro h
  unfold Spec.len Spec.sq
  pointwise
  simp only [h]

/-- The keys of unit length. -/
theorem kn_at (g : Fin 6) (r : Fin 32) (n : Fin 50176) :
    val_main_v83 (F := Ideal) x0 x1 x2 (ix4 0 g r n)
      = Ideal.div (Spec.z W X D ⟨192 + (g.val * 32 + r.val), by omega⟩ n.val) (Spec.len (Spec.sq (Spec.z W X D) ⟨192 + (g.val * 32 + r.val), by omega⟩)) := by
  have h := fun g r n => k_at W X D x0 x1 x2 hx hw hd g r n
  unfold val_main_v83 val_main_v82 val_main_v81 val_main_v80 val_main_v79 val_main_cst_1 val_main_call2_v2 val_main_call2_v1 val_main_call2_v0 val_main_call2_cst
  revert h
  generalize val_main_v72 (F := Ideal) x0 x1 x2 = y
  intro h
  unfold Spec.len Spec.sq
  pointwise
  simp only [h]

/-- The products of a head's queries and keys, times the head's factor. -/
theorem a_at (T : Fin 6 → EReal) (x4 : Vec Ideal S6x1x1 .f32) (ht : ∀ g, x4 (ix3 g 0 0) = T g) (g : Fin 6) (r s : Fin 32) :
    val_main_v87 (F := Ideal) x0 x1 x2 x4 (ix4 0 g r s)
      = Spec.gram (Spec.z W X D) ⟨g.val * 32 + r.val, by omega⟩ ⟨192 + (g.val * 32 + s.val), by omega⟩ * T g := by
  have hq := fun g r n => qn_at W X D x0 x1 x2 hx hw hd g r n
  have hk := fun g r n => kn_at W X D x0 x1 x2 hx hw hd g r n
  unfold val_main_v87 val_main_v86 val_main_v85 val_main_v84
  revert hq hk
  generalize val_main_v78 (F := Ideal) x0 x1 x2 = y
  generalize val_main_v83 (F := Ideal) x0 x1 x2 = y'
  intro hk hq
  unfold Spec.gram
  pointwise
  simp only [hq, hk, ht]

end Cert.ReferenceIdeal.Read
-- ==== Proof.Val.Order.lean ====
/- The sixteen largest entries of a row: the first sixteen positions of its stable sort are the entries kept. -/
module

public import proofs.«01_k».proof.Proof.Val.Spec
public import Idealize.ShloMosaic.Lib.PlanTiles.StableSort

@[expose] public section

noncomputable section

namespace Cert.Spec

open Idealize.ShloMosaic

/-- The number of entries below an entry. -/
def below (a : Fin 32 → EReal) (x : Fin 32) : ℕ := (Finset.univ.filter fun i => a i < a x).card

/-- An entry is smaller exactly when fewer entries are below it. -/
theorem below_lt (a : Fin 32 → EReal) (x y : Fin 32) : below a x < below a y ↔ a x < a y := by
  constructor
  · intro h
    by_contra hn
    refine absurd h (not_lt.mpr (Finset.card_le_card fun i hi => ?_))
    simp only [Finset.mem_filter, Finset.mem_univ, true_and] at hi ⊢
    exact hi.trans_le (not_lt.mp hn)
  · intro h
    refine Finset.card_lt_card ⟨fun i hi => ?_, fun hs => ?_⟩
    · simp only [Finset.mem_filter, Finset.mem_univ, true_and] at hi ⊢
      exact hi.trans h
    · have := hs (Finset.mem_filter.mpr ⟨Finset.mem_univ x, h⟩)
      simp at this

/-- Two entries are equal exactly when as many entries are below them. -/
theorem below_eq (a : Fin 32 → EReal) (x y : Fin 32) : below a x = below a y ↔ a x = a y := by
  have h1 := below_lt a x y
  have h2 := below_lt a y x
  constructor
  · intro h
    exact le_antisymm (not_lt.mp fun h' => by have := h2.mpr h'; omega) (not_lt.mp fun h' => by have := h1.mpr h'; omega)
  · intro h
    unfold below
    rw [h]

/-- The position of the `m`-th entry in decreasing order, equal ones by position. -/
def srt (a : Fin 32 → EReal) : Fin 32 → Fin 32 := sortedFrom fun k k' => decide (a k' < a k)

/-- Of two positions of a list in order, the earlier holds the element that comes first. -/
theorem get_before {ι : Type} (R : ι → ι → Prop) (L : List ι) {n : ℕ} (l : L.length = n) (hp : L.Pairwise R) (m m' : Fin n) (h : m < m') :
    R (L.get (m.cast l.symm)) (L.get (m'.cast l.symm)) :=
  List.pairwise_iff_get.mp hp _ _ (show m.val < m'.val from h)

/-- The sort puts a position before another when its entry is larger, or equal and earlier. -/
theorem srt_before (a : Fin 32 → EReal) (m m' : Fin 32) (h : m < m') :
    a (srt a m') < a (srt a m) ∨ (a (srt a m) = a (srt a m') ∧ srt a m < srt a m') := by
  have e : (fun k k' : Fin 32 => decide (a k' < a k)) = fun x y => decide (below a y < below a x) := by
    funext k k'
    exact decide_eq_decide.mpr (below_lt a k' k).symm
  have hp : (sortPositions 32 fun k k' : Fin 32 => decide (a k' < a k)).Pairwise (PlanTiles.Lex (below a) (· < ·)) := by
    rw [e]
    exact PlanTiles.pairwise_stableSort_lex (below a) (· < ·) (List.finRange 32) (List.pairwise_lt_finRange 32)
  have := get_before _ _ (length_sortPositions 32 fun k k' : Fin 32 => decide (a k' < a k)) hp m m' h
  unfold PlanTiles.Lex at this
  rw [below_lt, below_eq] at this
  exact this

/-- The entries kept are those of the first sixteen sorted positions. -/
theorem kept_srt (a : Fin 32 → EReal) (m : Fin 32) : kept a (srt a m) ↔ m.val < 16 := by
  unfold kept
  have e : (Finset.univ.filter fun i : Fin 32 => a (srt a m) < a i ∨ (a i = a (srt a m) ∧ i < srt a m))
      = (Finset.univ.filter fun k : Fin 32 => k < m).image (srt a) := by
    ext i
    obtain ⟨k, rfl⟩ := sortedFrom_surjective (fun k k' : Fin 32 => decide (a k' < a k)) i
    change srt a k ∈ _ ↔ srt a k ∈ _
    have hi : Function.Injective (srt a) := sortedFrom_injective _
    rw [hi.mem_finset_image]
    simp only [Finset.mem_filter, Finset.mem_univ, true_and]
    rcases lt_trichotomy k m with h | h | h
    · have := srt_before a k m h
      exact ⟨fun _ => h, fun _ => this⟩
    · subst h
      exact ⟨fun h => (h.elim (lt_irrefl _) fun h => lt_irrefl _ h.2).elim, fun h => (lt_irrefl _ h).elim⟩
    · have := srt_before a m k h
      refine ⟨fun h' => ?_, fun h' => (lt_asymm h h').elim⟩
      rcases this with h1 | ⟨h1, h2⟩ <;> rcases h' with h3 | ⟨h3, h4⟩
      · exact (lt_asymm h1 h3).elim
      · exact (h1.ne h3).elim
      · exact (h3.ne h1).elim
      · exact (lt_asymm h2 h4).elim
  rw [e, Finset.card_image_of_injective _ (show Function.Injective (srt a) from sortedFrom_injective _)]
  rw [show (Finset.univ.filter fun k : Fin 32 => k < m) = Finset.Iio m from Finset.ext fun k => by simp, Fin.card_Iio]

end Cert.Spec
-- ==== Proof.Val.Ref2.lean ====
/- The reference's softmax over each row's sixteen largest entries. -/
module

public import proofs.«01_k».proof.Proof.Gen.ReferenceIdeal.Read
public import proofs.«01_k».proof.Proof.Val.Order
public import Idealize.ShloMosaic.Lib.Pointwise

@[expose] public section

set_option backward.proofsInPublic true
set_option maxRecDepth 16384

noncomputable section

namespace Cert.ReferenceIdeal.Read

open Cert.ReferenceIdeal Cert.ReferenceIdeal.Gen Idealize.ShloMosaic Idealize.ShloMosaic.TcCoe Idealize.ShloMosaic.Tactic

/-- "Greater" in the order of the extended reals. -/
theorem gt_eq (x y : EReal) : (FloatOps.cmpfTotal (F := Ideal) (φ := .f32) .gt x y == 1#1) = decide (y < x) := by
  change (BitVec.ofBool (decide (y < x)) == 1#1) = decide (y < x)
  by_cases h : y < x <;> simp [h]

/-- The position of the `m`-th of the sixteen largest entries of a row. -/
theorem idx_at (y : Vec Ideal S1x6x32x32 .f32) (g : Fin 6) (r : Fin 32) (m : Fin 16) :
    (Host.topK S1x6x32x16 3 (FloatOps.cmpfTotal (F := Ideal) (φ := .f32) .gt) y sliceFits_S1x6x32x32_S1x6x32x16).2 (ix4 0 g r m)
      = BitVec.ofNat 32 (Spec.srt (fun d => y (ix4 0 g r d)) ⟨m.val, by omega⟩).val := by
  have hy : ∀ (m' k : Fin 32), (ix4 0 g r m' : S1x6x32x32.Idx).along 3 k = ix4 0 g r k := fun m' k => by
    funext a; fin_cases a <;> rfl
  unfold Host.topK Host.sort2 Spec.srt
  pointwise
  simp only [hy, gt_eq]
  rfl

/-- The number of times a position is among the sixteen. -/
theorem mark_at (I : IVec S1x6x32x16 32) (g : Fin 6) (r j : Fin 32) :
    (Host.reduceAdd (F := Ideal) (φ := .f32) (uitofp .f32 (cmpi .eq
      (broadcastInDim S1x6x32x16x32 ![0, 1, 2, 3, 4] bcast_S1x6x32x16x1_S1x6x32x16x32_0_1_2_3_4 (broadcastInDim S1x6x32x16x1 ![0, 1, 2, 3] bcast_S1x6x32x16_S1x6x32x16x1_0_1_2_3 I))
      (broadcastInDim S1x6x32x16x32 ![0, 1, 2, 3, 4] bcast_S1x1x1x1x32_S1x6x32x16x32_0_1_2_3_4 (iotaInDim S1x1x1x1x32 32 4))))
      (constant (F := Ideal) S_ .f32 0x00000000#32) reducesTo_S1x6x32x16x32_S1x6x32x32_d3 h_S_ : Vec Ideal S1x6x32x32 .f32) (ix4 0 g r j)
      = ∑ m : Fin 16, if I (ix4 0 g r m) = BitVec.ofNat 32 j.val then (1 : EReal) else 0 := by
  pointwise
  refine Finset.sum_congr rfl fun m _ => ?_
  change (((IntOp.cmpi CmpIPredicate.eq (I (ix4 0 g r m)) (BitVec.ofNat 32 j.val)).toNat : ℝ) : EReal) = _
  by_cases h : I (ix4 0 g r m) = BitVec.ofNat 32 j.val <;> simp [IntOp.cmpi, h]

/-- The count of one value among the first sixteen of 32 different ones is positive exactly when it stands among them. -/
theorem count_pos (σ : Fin 32 → Fin 32) (hσ : Function.Injective σ) (k : Fin 32) :
    (0 : EReal) < (∑ m : Fin 16, if σ ⟨m.val, by omega⟩ = σ k then (1 : EReal) else 0) ↔ k.val < 16 := by
  constructor
  · intro h
    by_contra hk
    refine absurd h (not_lt.mpr (le_of_eq (Finset.sum_eq_zero fun m _ => if_neg fun he => hk ?_)))
    have := congrArg Fin.val (hσ he)
    have := m.isLt
    simp only at *
    omega
  · intro hk
    have h1 := Finset.single_le_sum (f := fun m : Fin 16 => if σ ⟨m.val, by omega⟩ = σ k then (1 : EReal) else 0)
      (fun m _ => by split <;> simp) (Finset.mem_univ (⟨k.val, hk⟩ : Fin 16))
    simp only [if_true] at h1
    exact lt_of_lt_of_le zero_lt_one h1

/-- A position is marked exactly when its entry is kept. -/
theorem mark_pos (a : Fin 32 → EReal) (j : Fin 32) :
    (0 : EReal) < (∑ m : Fin 16, if BitVec.ofNat 32 (Spec.srt a ⟨m.val, by omega⟩).val = BitVec.ofNat 32 j.val then (1 : EReal) else 0) ↔ Spec.kept a j := by
  have hj : ∀ i : Fin 32, BitVec.ofNat 32 i.val = BitVec.ofNat 32 j.val ↔ i = j := fun i => by
    constructor
    · intro h
      have := congrArg BitVec.toNat h
      simp only [BitVec.toNat_ofNat] at this
      exact Fin.ext (by omega)
    · rintro rfl; rfl
  simp only [hj]
  obtain ⟨k, rfl⟩ := sortedFrom_surjective (fun k k' : Fin 32 => decide (a k' < a k)) j
  change (0 : EReal) < (∑ m : Fin 16, if Spec.srt a ⟨m.val, by omega⟩ = Spec.srt a k then (1 : EReal) else 0) ↔ Spec.kept a (Spec.srt a k)
  rw [Spec.kept_srt]
  exact count_pos (Spec.srt a) (sortedFrom_injective _) k

variable (x0 : Vec Ideal S1x192x224x224 .f32) (x1 : Vec Ideal S576x192x1x1 .f32) (x2 : Vec Ideal S576x1x3x3 .f32) (x4 : Vec Ideal S6x1x1 .f32)

/-- Each row with every entry that is not kept lowered to minus infinity. -/
theorem masked_at (g : Fin 6) (r j : Fin 32) :
    val_main_v92 (F := Ideal) x0 x1 x2 x4 (ix4 0 g r j) = Spec.masked (fun d => val_main_v87 (F := Ideal) x0 x1 x2 x4 (ix4 0 g r d)) j := by
  have hb : Ideal.ofBits .f32 0xFF800000#32 = ⊥ := by simp [Ideal.ofBits, Ideal.ieee]
  unfold val_main_v92 val_main_v91 val_main_v90 val_main_v89 val_main_v88 val_main_call4_v1 val_main_call4_v0 val_main_cst_4 val_main_cst_3 val_main_cst_2
    val_main_call3_v4 val_main_call3_v3 val_main_call3_v2 val_main_call3_v1 val_main_call3_v0 val_main_indices
  generalize val_main_v87 (F := Ideal) x0 x1 x2 x4 = y
  have hm := mark_at (Host.topK S1x6x32x16 3 (FloatOps.cmpfTotal (F := Ideal) (φ := .f32) .gt) y sliceFits_S1x6x32x32_S1x6x32x16).2 g r j
  simp only [idx_at] at hm
  revert hm
  generalize Host.reduceAdd (F := Ideal) (φ := .f32) (s := S1x6x32x16x32) (t := S1x6x32x32) _ _ _ _ = M
  intro hm
  pointwise
  rw [hm]
  change (if _ then _ else Ideal.ofBits .f32 0xFF800000#32) = _
  rw [hb]
  unfold Spec.masked
  by_cases hk : Spec.kept (fun d => y (ix4 0 g r d)) j
  · rw [if_pos ((mark_pos _ j).mpr hk), if_pos hk]
  · rw [if_neg fun h => hk ((mark_pos _ j).mp h), if_neg hk]

/-- Each row's softmax over the entries kept. -/
theorem soft_at (g : Fin 6) (r j : Fin 32) :
    val_main_v103 (F := Ideal) x0 x1 x2 x4 (ix4 0 g r j) = Spec.soft (fun d => val_main_v87 (F := Ideal) x0 x1 x2 x4 (ix4 0 g r d)) j := by
  have hb : Ideal.ofBits .f32 0xFF800000#32 = ⊥ := by simp [Ideal.ofBits, Ideal.ieee]
  have h := fun g r j => masked_at x0 x1 x2 x4 g r j
  unfold val_main_v103 val_main_v102 val_main_v101 val_main_v100 val_main_v99 val_main_v98 val_main_v97 val_main_v96 val_main_v95 val_main_v94 val_main_v93
    val_main_cst_7 val_main_cst_6 val_main_cst_5
  revert h
  generalize val_main_v92 (F := Ideal) x0 x1 x2 x4 = y
  intro h
  unfold Spec.soft Spec.top
  pointwise
  simp only [h, hb, max_eq_right bot_le]

end Cert.ReferenceIdeal.Read
-- ==== Proof.Val.Ref3.lean ====
/- The reference's result. -/
module

public import proofs.«01_k».proof.Proof.Val.Ref1
public import proofs.«01_k».proof.Proof.Val.Ref2

@[expose] public section

set_option backward.proofsInPublic true
set_option maxRecDepth 16384

noncomputable section

namespace Cert.ReferenceIdeal.Read

open Cert.ReferenceIdeal Cert.ReferenceIdeal.Gen Idealize.ShloMosaic Idealize.ShloMosaic.TcCoe Idealize.ShloMosaic.Tactic

variable (W : Fin 576 → Fin 192 → EReal) (X : Fin 192 → Fin 224 → Fin 224 → EReal) (D : Fin 576 → Fin 9 → EReal)
variable (x0 : Vec Ideal S1x192x224x224 .f32) (x1 : Vec Ideal S576x192x1x1 .f32) (x2 : Vec Ideal S576x1x3x3 .f32)
variable (hx : ∀ k h w, x0 (ix4 0 k h w) = X k h w) (hw : ∀ o k, x1 (ix4 o k 0 0) = W o k)
  (hd : ∀ (o : Fin 576) (p q : Fin 3), x2 (ix4 o 0 p q) = D o ⟨p.val * 3 + q.val, tap_lt p q⟩)

variable (T : Fin 6 → EReal) (A : EReal) (P : Fin 192 → Fin 192 → EReal)
variable (x3 : Vec Ideal S192x192x1x1 .f32) (x4 : Vec Ideal S6x1x1 .f32) (x5 : Vec Ideal S1 .f32)
variable (hp : ∀ o k, x3 (ix4 o k 0 0) = P o k) (ht : ∀ g, x4 (ix3 g 0 0) = T g) (ha : x5 (ix1 0) = A)

include hx hw hd ht

/-- The attention weights, by head. -/
theorem w_at (g : Fin 6) (r d : Fin 32) :
    val_main_v103 (F := Ideal) x0 x1 x2 x4 (ix4 0 g r d)
      = Spec.soft (fun s => Spec.gram (Spec.z W X D) ⟨g.val * 32 + r.val, by omega⟩ ⟨192 + (g.val * 32 + s.val), by omega⟩ * T g) d := by
  rw [soft_at]
  exact congrArg (fun f => Spec.soft f d) (funext fun s => a_at W X D x0 x1 x2 hx hw hd T x4 ht g r s)

include hp ha

/-- The result at a channel, a row and a column. -/
theorem out_at (o : Fin 192) (h w : Fin 224) :
    val_main_v111 (F := Ideal) x0 x1 x2 x3 x4 x5 (ix4 0 o h w) = Spec.out (Spec.z W X D) T A P o (h.val * 224 + w.val) := by
  have hv := fun g d n => v_at W X D x0 x1 x2 hx hw hd g d n
  have hs := fun g r d => w_at W X D x0 x1 x2 hx hw hd T x4 ht g r d
  unfold val_main_v111 val_main_v110 val_main_v109 val_main_v108 val_main_v107 val_main_v106 val_main_v105 val_main_v104
  revert hv hs
  generalize val_main_v103 (F := Ideal) x0 x1 x2 x4 = y
  generalize val_main_v73 (F := Ideal) x0 x1 x2 = y'
  intro hv hs
  unfold Spec.out Spec.mix Spec.attn
  pointwise
  refine Finset.sum_congr rfl fun k _ => ?_
  have e : k.val / 32 * 32 + k.val % 32 = k.val := by omega
  rw [mul_comm _ (x3 (ix4 o k 0 0)), ha, hp]
  simp only [hs, hv, e, ← Nat.add_assoc]

end Cert.ReferenceIdeal.Read
-- ==== Proof.Val.Agree.lean ====
/- The equation: the reference's result and the kernel's are the same array. -/
module

public import proofs.«01_k».proof.Proof.Val.Final
public import proofs.«01_k».proof.Proof.Val.Ref3

@[expose] public section

set_option backward.proofsInPublic true

noncomputable section

namespace Cert.Agree

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The reference's term over the kernel's arguments is what the kernel leaves in its result. -/
theorem result_eq :
    (Cert.ReferenceIdeal.Read.val_main_v111 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) : Vec Ideal S1x192x224x224 .f32) = W6 m ρ c (Proc.devRef .tc main_v0) := by
  funext i
  obtain ⟨o, h, w, rfl⟩ : ∃ (o : Fin 192) (h w : Fin 224), i = ix4 0 o h w :=
    ⟨i 1, i 2, i 3, by funext a; fin_cases a <;> first | rfl | exact Subsingleton.elim (α := Fin 1) _ _⟩
  refine Eq.trans ?_ (out_val m ρ c o h w).symm
  refine Cert.ReferenceIdeal.Read.out_at (aW (m ((c.tc : Thread nD τ).loc main_arg1))) (aX (m ((c.tc : Thread nD τ).loc main_arg0)))
    (aD (m ((c.tc : Thread nD τ).loc main_arg2))) _ _ _ (fun _ _ _ => rfl) (fun _ _ => rfl) (fun o p q => ?_)
    (aT (m ((c.tc : Thread nD τ).loc main_arg4))) (aA (m ((c.tc : Thread nD τ).loc main_arg5))) (aP (m ((c.tc : Thread nD τ).loc main_arg3)))
    _ _ _ (fun _ _ => rfl) (fun _ => rfl) rfl o h w
  unfold aD
  congr 2 <;> exact Fin.ext (by simp only []; omega)

end Cert.Agree
-- ==== Proof.lean ====
module

public import proofs.«01_k».proof.Defs
public import proofs.«01_k».proof.Proof.RunK.Frame
public import proofs.«01_k».proof.Proof.RunI.Frame
public import proofs.«01_k».proof.Proof.Gen.ReferenceIdeal.Run
public import proofs.«01_k».proof.Proof.Gen.ReferenceIdeal.Read
public import proofs.«01_k».proof.Proof.Val.Agree
public import Idealize.ShloMosaic.Adequacy
public import Idealize.ShloMosaic.Init

@[expose] public section

noncomputable section

namespace Cert.Proof

open Idealize.ShloMosaic Idealize.SL.Sem Cert.Kernel

/-- From memories that agree on the arguments, the kernel's ideal form and the reference both run, leave their arguments
    as they were, and end with the same result at the extended reals. -/
theorem algebraic : @Cert.algebraic_KernelIdeal_ReferenceIdeal Cert.KernelIdeal.Gen.facts Cert.ReferenceIdeal.Gen.facts := by
  intro m g m' g' _ hagree
  refine ⟨fun c => Cert.KernelIdeal.Gen.W6 m g c (Proc.devRef .tc Cert.KernelIdeal.main_v0), Cert.KernelIdeal.Gen.run_out m g,
    (θ_run Cert.ReferenceIdeal.defs _ _).mono (fun r h c => ⟨?_, (h c).2⟩) (Cert.ReferenceIdeal.Value.run (F := Ideal) m' g')⟩
  refine (h c).1.trans ((Cert.ReferenceIdeal.Read.val_main_v111_eq (StableHlo.launchContents m' c)).trans
    (Eq.trans ?_ (Cert.Agree.result_eq m g c)))
  obtain ⟨e0, e1, e2, e3, e4, e5⟩ := hagree c
  rw [StableHlo.launchContents_devRef, StableHlo.launchContents_devRef, StableHlo.launchContents_devRef, StableHlo.launchContents_devRef,
    StableHlo.launchContents_devRef, StableHlo.launchContents_devRef, e0, e1, e2, e3, e4, e5]

/-- The whole claim. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => (θ_run Cert.ReferenceIdeal.defs _ _).mono
      (fun r h => ⟨fun c => (h c).2, Idealize.ShloMosaic.sem_eq_zero_of_no_sems (by decide) r.2⟩) (Cert.ReferenceIdeal.Value.run (F := Ideal) m ρ),
    IdealRules.named_const.statement Cert.KernelIdeal.κ "mask" .f32 0xF149F2CA#32 ⊥ rfl, algebraic⟩

end Cert.Proof
